-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![32768, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![8192, 1024]⟩ ⟨2, ![32768, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S1x1024 : Shape := ⟨2, ![1, 1024]⟩
abbrev S1024x1024 : Shape := ⟨2, ![1024, 1024]⟩
abbrev S8x1024 : Shape := ⟨2, ![8, 1024]⟩
abbrev S3x1x1024 : Shape := ⟨3, ![3, 1, 1024]⟩
abbrev S4 : Shape := ⟨1, ![4]⟩
abbrev S3 : Shape := ⟨1, ![3]⟩
abbrev S_ : Shape := ⟨0, ![]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S4x1024 : Shape := ⟨2, ![4, 1024]⟩
abbrev S2x1024 : Shape := ⟨2, ![2, 1024]⟩
abbrev S1x1x1024 : Shape := ⟨3, ![1, 1, 1024]⟩
abbrev S1 : Shape := ⟨1, ![1]⟩
abbrev S128x8x1024 : Shape := ⟨3, ![128, 8, 1024]⟩
abbrev S128x1x1024 : Shape := ⟨3, ![128, 1, 1024]⟩
abbrev S128x7x1024 : Shape := ⟨3, ![128, 7, 1024]⟩
abbrev S128x2x1024 : Shape := ⟨3, ![128, 2, 1024]⟩
abbrev S128x6x1024 : Shape := ⟨3, ![128, 6, 1024]⟩
abbrev S128x4x1024 : Shape := ⟨3, ![128, 4, 1024]⟩
abbrev S16x8x1024 : Shape := ⟨3, ![16, 8, 1024]⟩
abbrev S16x1x1024 : Shape := ⟨3, ![16, 1, 1024]⟩
abbrev S16x7x1024 : Shape := ⟨3, ![16, 7, 1024]⟩
abbrev S16x2x1024 : Shape := ⟨3, ![16, 2, 1024]⟩
abbrev S16x6x1024 : Shape := ⟨3, ![16, 6, 1024]⟩
abbrev S16x4x1024 : Shape := ⟨3, ![16, 4, 1024]⟩
abbrev S15x1x1024 : Shape := ⟨3, ![15, 1, 1024]⟩
abbrev S2x1x1024 : Shape := ⟨3, ![2, 1, 1024]⟩
abbrev S14x1x1024 : Shape := ⟨3, ![14, 1, 1024]⟩
abbrev S4x1x1024 : Shape := ⟨3, ![4, 1, 1024]⟩
abbrev S12x1x1024 : Shape := ⟨3, ![12, 1, 1024]⟩
abbrev S8x1x1024 : Shape := ⟨3, ![8, 1, 1024]⟩

abbrev nBuf : Space → Nat
  | .hbm => 3
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S8x1024, .f32⟩
  | .local _ .vmem, ⟨4, _⟩ => ⟨S1x1024, .f32⟩
  | .local _ .vmem, ⟨5, _⟩ => ⟨S3x1x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_9 : BitVec 32 := 0#32
  let v42 : BitVec 1 := Scalar.cmpi .ne v2 c0_i32_9
  let v43 : BitVec 32 := Scalar.extui v42
  let c0_i32_10 : BitVec 32 := 0#32
  let v44 : BitVec 1 := Scalar.cmpi .ne v43 c0_i32_10
  v44

def k0_dev1 : Nat :=
  let c0_i32_19 : BitVec 32 := 0#32
  let c0_i32_17 : BitVec 32 := 0#32
  let c1_i32_18 : BitVec 32 := 1#32
  let v54 : BitVec 32 := Scalar.muli c0_i32_17 c1_i32_18
  let v55 : BitVec 32 := Scalar.addi c0_i32_19 v54
  v55.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v45 : BitVec 1 := Scalar.cmpi .ne v2 c1_i32_11
  let v46 : BitVec 32 := Scalar.extui v45
  let c0_i32_12 : BitVec 32 := 0#32
  let v47 : BitVec 1 := Scalar.cmpi .ne v46 c0_i32_12
  v47

def k0_dev2 : Nat :=
  let c0_i32_19 : BitVec 32 := 0#32
  let c1_i32_17 : BitVec 32 := 1#32
  let c1_i32_18 : BitVec 32 := 1#32
  let v54 : BitVec 32 := Scalar.muli c1_i32_17 c1_i32_18
  let v55 : BitVec 32 := Scalar.addi c0_i32_19 v54
  v55.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v48 : BitVec 1 := Scalar.cmpi .ne v2 c2_i32
  let v49 : BitVec 32 := Scalar.extui v48
  let c0_i32_13 : BitVec 32 := 0#32
  let v50 : BitVec 1 := Scalar.cmpi .ne v49 c0_i32_13
  v50

def k0_dev3 : Nat :=
  let c0_i32_19 : BitVec 32 := 0#32
  let c2_i32_17 : BitVec 32 := 2#32
  let c1_i32_18 : BitVec 32 := 1#32
  let v54 : BitVec 32 := Scalar.muli c2_i32_17 c1_i32_18
  let v55 : BitVec 32 := Scalar.addi c0_i32_19 v54
  v55.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v51 : BitVec 1 := Scalar.cmpi .ne v2 c3_i32
  let v52 : BitVec 32 := Scalar.extui v51
  let c0_i32_14 : BitVec 32 := 0#32
  let v53 : BitVec 1 := Scalar.cmpi .ne v52 c0_i32_14
  v53

def k0_dev4 : Nat :=
  let c0_i32_19 : BitVec 32 := 0#32
  let c3_i32_17 : BitVec 32 := 3#32
  let c1_i32_18 : BitVec 32 := 1#32
  let v54 : BitVec 32 := Scalar.muli c3_i32_17 c1_i32_18
  let v55 : BitVec 32 := Scalar.addi c0_i32_19 v54
  v55.toNat
def k0_cond6 (i : grid0.Coords) : BitVec 1 :=
  let arg0 : BitVec 32 := BitVec.ofNat 32 (i 0).val
  let c7_i32 : BitVec 32 := 7#32
  let v34 : BitVec 1 := Scalar.cmpi .eq arg0 c7_i32
  let v35 : BitVec 32 := Scalar.extui v34
  let c0_i32_6 : BitVec 32 := 0#32
  let v36 : BitVec 1 := Scalar.cmpi .ne v35 c0_i32_6
  v36

def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_16 : BitVec 32 := 0#32
  let v59 : BitVec 1 := Scalar.cmpi .eq v2 c0_i32_16
  let v60 : BitVec 32 := Scalar.extui v59
  let c0_i32_17 : BitVec 32 := 0#32
  let v61 : BitVec 1 := Scalar.cmpi .ne v60 c0_i32_17
  v61

def k0_dev5 : Nat :=
  let c0_i32_42 : BitVec 32 := 0#32
  let c1_i32_40 : BitVec 32 := 1#32
  let c1_i32_41 : BitVec 32 := 1#32
  let v86 : BitVec 32 := Scalar.muli c1_i32_40 c1_i32_41
  let v87 : BitVec 32 := Scalar.addi c0_i32_42 v86
  v87.toNat
def k0_dev6 : Nat :=
  let c0_i32_50 : BitVec 32 := 0#32
  let c2_i32_48 : BitVec 32 := 2#32
  let c1_i32_49 : BitVec 32 := 1#32
  let v94 : BitVec 32 := Scalar.muli c2_i32_48 c1_i32_49
  let v95 : BitVec 32 := Scalar.addi c0_i32_50 v94
  v95.toNat
def k0_dev7 : Nat :=
  let c0_i32_57 : BitVec 32 := 0#32
  let c3_i32_55 : BitVec 32 := 3#32
  let c1_i32_56 : BitVec 32 := 1#32
  let v102 : BitVec 32 := Scalar.muli c3_i32_55 c1_i32_56
  let v103 : BitVec 32 := Scalar.addi c0_i32_57 v102
  v103.toNat
def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v62 : BitVec 1 := Scalar.cmpi .eq v2 c1_i32_18
  let v63 : BitVec 32 := Scalar.extui v62
  let c0_i32_19 : BitVec 32 := 0#32
  let v64 : BitVec 1 := Scalar.cmpi .ne v63 c0_i32_19
  v64

def k0_dev8 : Nat :=
  let c0_i32_42 : BitVec 32 := 0#32
  let c2_i32_40 : BitVec 32 := 2#32
  let c1_i32_41 : BitVec 32 := 1#32
  let v86 : BitVec 32 := Scalar.muli c2_i32_40 c1_i32_41
  let v87 : BitVec 32 := Scalar.addi c0_i32_42 v86
  v87.toNat
def k0_dev9 : Nat :=
  let c0_i32_49 : BitVec 32 := 0#32
  let c3_i32_47 : BitVec 32 := 3#32
  let c1_i32_48 : BitVec 32 := 1#32
  let v94 : BitVec 32 := Scalar.muli c3_i32_47 c1_i32_48
  let v95 : BitVec 32 := Scalar.addi c0_i32_49 v94
  v95.toNat
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_20 : BitVec 32 := 2#32
  let v65 : BitVec 1 := Scalar.cmpi .eq v2 c2_i32_20
  let v66 : BitVec 32 := Scalar.extui v65
  let c0_i32_21 : BitVec 32 := 0#32
  let v67 : BitVec 1 := Scalar.cmpi .ne v66 c0_i32_21
  v67

def k0_dev10 : Nat :=
  let c0_i32_41 : BitVec 32 := 0#32
  let c3_i32_39 : BitVec 32 := 3#32
  let c1_i32_40 : BitVec 32 := 1#32
  let v86 : BitVec 32 := Scalar.muli c3_i32_39 c1_i32_40
  let v87 : BitVec 32 := Scalar.addi c0_i32_41 v86
  v87.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S32768x1024, .f32⟩
  | .hbm, ⟨5, _⟩ => ⟨S_, .i32⟩
  | .hbm, ⟨6, _⟩ => ⟨S32768x1024, .f32⟩
  | .hbm, ⟨7, _⟩ => ⟨S_, .i32⟩
  | .hbm, ⟨8, _⟩ => ⟨S1024, .f32⟩
  | .hbm, ⟨9, _⟩ => ⟨S32768x1024, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x1024, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S_, .i32⟩
  | .hbm, ⟨18, _⟩ => ⟨S32768x1024, .f32⟩
  | .hbm, ⟨19, _⟩ => ⟨S_, .i32⟩
  | .hbm, ⟨20, _⟩ => ⟨S_, .i32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 32768#32, 1#32⟩
-- ==== Proof.Proto.lean ====
/-
  The exchange of the first kernel, as a protocol. Before any row is multiplied each device signals the barrier semaphore of the
  three others and waits for their three units. After its last block device `j` holds `tot j`, the product of all its rows, and
  copies it into slot `j` of the landing buffer of every later device `t > j`, with its own send semaphore `t` and the receive
  semaphore `j` of `t`. Device `c` waits for the copies it started and for the copies of every earlier device.

  Who waits, for what, and what it is handed:
  * barrier cell of `c`, one round of three units, one by each other device `t`: from a later device `t` the unit brings slot `c` of
    `t`'s landing buffer, at any contents, and that `t` has opened its receive cell `c`; from an earlier device it brings nothing;
  * send cell `t` of `c`, `c < t`: one landing, which brings back the share of the total that the copy reads;
  * receive cell `j` of `c`, `j < c`: one landing, which brings slot `j` of `c` holding `tot j`.
  Levels: barrier 1, receive 2, everything else 0.
-/
module

public import proofs.«01_k».proof.Defs
public import Idealize.ShloMosaic.Lib.Pipeline.Launch
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

/-! ## The resource algebra -/

/-- Two copies of the rounds library: the pipelines' and the exchange's, whose duties are named by the device that pays. -/
abbrev UU : Type := URounds (GSem nD τ sig) Unit × URounds (GSem nD τ sig) (Dev nD)

local notation "𝕄" => MT nD τ sig Unit (Elt F) ℕ UU ℕ

/-- The pipelines' copy, -/
def EP : Emb (URounds (GSem nD τ sig) Unit) (MT nD τ sig Unit (Elt F) ℕ UU ℕ) :=
  (Emb.inl : Emb (URounds (GSem nD τ sig) Unit) UU).trans (uEmb (nD := nD) (sig := sig) (Ix := Unit) (Val := Elt F) (Name := ℕ) (U := UU) (Lvl := ℕ)).toEmb

/-- and the exchange's. -/
def ER : Emb (URounds (GSem nD τ sig) (Dev nD)) (MT nD τ sig Unit (Elt F) ℕ UU ℕ) :=
  (Emb.inr : Emb (URounds (GSem nD τ sig) (Dev nD)) UU).trans (uEmb (nD := nD) (sig := sig) (Ix := Unit) (Val := Elt F) (Name := ℕ) (U := UU) (Lvl := ℕ)).toEmb

instance EP_landsIn : (EP : Emb (URounds (GSem nD τ sig) Unit) 𝕄).LandsIn (upEmb : UEmb _ 𝕄) := by unfold EP; infer_instance
instance ER_landsIn : (ER : Emb (URounds (GSem nD τ sig) (Dev nD)) 𝕄).LandsIn (upEmb : UEmb _ 𝕄) := by unfold ER; infer_instance

/-! ## Memrefs, semaphores and cells -/

/-- The running product of 8 rows, the device's total, and the landing buffer of three rows. -/
abbrev accM : Memref sig .tc .vmem S8x1024 .f32 := Memref.whole cc0_scratch0
abbrev totM : Memref sig .tc .vmem S1x1024 .f32 := Memref.whole cc0_scratch1
abbrev rcvM : Memref sig .tc .vmem S3x1x1024 .f32 := Memref.whole cc0_scratch2

theorem inb_slot (j : Dev nD) : ∀ a, (![min j.val 2, 0, 0] : Fin 3 → Nat) a + S1x1x1024.size a ≤ S3x1x1024.size a := by
  revert j; decide

/-- The rectangle of slot `j` in the landing buffer (for `j = 3` slot 2 again: no device sends there). -/
abbrev slotR (j : Dev nD) : Rect S3x1x1024 := Rect.unit (s := S3x1x1024) ![min j.val 2, 0, 0] S1x1x1024.size (inb_slot j)

/-- Slot `j` of the landing buffer, as the copies address it. -/
abbrev slotM (j : Dev nD) : Memref sig .tc .vmem S1x1024 .f32 :=
  (rcvM.slice (slotR j) (fun _ => rfl)).squeeze S1x1024 squeezes_S1x1x1024_S1x1024

/-- The barrier semaphore; send semaphore `t`; receive semaphore `j` (`j < 3`). -/
abbrev barS : Sem sig := sig.barrier 0 rfl
def sndS (t : Dev nD) : DmaSem sig := ⟨3 + t.val, by have : t.val < 4 := t.isLt; show 3 + t.val < 15; omega⟩
def rcvS (j : Dev nD) : DmaSem sig := ⟨7 + j.val, by have : j.val < 4 := j.isLt; show 7 + j.val < 15; omega⟩

/-- The semaphores that belong to the kernel: the four send ones and the three receive ones. -/
def osem (k : Fin 7) : SemLoc sig := .dma ⟨3 + k.val, by have := k.isLt; show 3 + k.val < 15; omega⟩

abbrev barCell (c : Dev nD) : GSem nD τ sig := ((c : Thread nD τ), .reg barS)
abbrev sndCell (c t : Dev nD) : GSem nD τ sig := ((c : Thread nD τ), .dma (sndS t))
abbrev rcvCell (c j : Dev nD) : GSem nD τ sig := ((c : Thread nD τ), .dma (rcvS j))
abbrev ownCell (c : Dev nD) (k : Fin 7) : GSem nD τ sig := ((c : Thread nD τ), osem k)

abbrev 𝒱₀ : Variants := Variants.none

/-- What a semaphore is for. -/
inductive Kind
  | bar | snd (t : Dev nD) | rcv (j : Dev nD) | other
  deriving DecidableEq

/-- Reads off a semaphore what it is for. -/
def kind : SemLoc sig → Kind
  | .reg s => if s = barS then .bar else .other
  | .dma q => if q.val < 3 then .other else if q.val < 7 then .snd ⟨(q.val - 3) % 4, Nat.mod_lt _ (by decide)⟩
      else if q.val < 10 then .rcv ⟨(q.val - 7) % 4, Nat.mod_lt _ (by decide)⟩ else .other

theorem kind_bar : kind (.reg barS) = .bar := by decide
theorem kind_snd (t : Dev nD) : kind (.dma (sndS t)) = .snd t := by revert t; decide
theorem kind_rcv (j : Dev nD) (h : j < 3) : kind (.dma (rcvS j)) = .rcv j := by revert j; decide

/-- What one copy of a row credits. -/
abbrev N : ℕ := totM.view.dmaCredit

theorem N_pos : 0 < N := View.dmaCredit_pos _ (by decide)
theorem N_slot (j : Dev nD) : (slotM j).view.dmaCredit = N := by
  revert j; decide

/-! ## Contents -/

variable (m : (ℓ : Loc nD τ sig) → Buf (Elt F) ℓ)

/-- Block `t` of 1024 rows of device `c`'s argument. -/
def xblk (c : Dev nD) (t : Fin grid0.N) : FVec F S1024x1024 .f32 :=
  (win0_0.blk t).view.read (Elt F) (m ((c : Thread nD τ).loc main_arg0))

/-- The 8 running products after the first `n` blocks. -/
def accAt (c : Dev nD) : ℕ → FVec F S8x1024 .f32
  | 0 => k0_pay1
  | n + 1 => if h : n < grid0.N then k0_pay2 (xblk m c ⟨n, h⟩) (accAt c n) else accAt c n

/-- The product of all rows of device `c`, per column. -/
def tot (c : Dev nD) : FVec F S1x1024 .f32 := k0_pay4 (accAt m c 8)

/-- A row of ones. -/
def onesRow : FVec F S1x1024 .f32 := shapeCast S1x1024 (k0_pay5 (F := F)) shapeCasts_S1x1x1024_S1x1024

/-- What slot `j` of device `c` holds at the end: the total of an earlier device, or ones. -/
def slotVal (c j : Dev nD) : FVec F S1x1024 .f32 := if j < c then tot m j else onesRow

/-- The product of the totals of the devices before `c`. -/
def carry (c : Dev nD) : FVec F S1x1024 .f32 := mulf (mulf (slotVal m c 0) (slotVal m c 1)) (slotVal m c 2)

/-! ## The resources that change hands -/

/-- Slot `j` of device `c`, at contents `f`, -/
def slotPts (c j : Dev nD) (f : Buf (Elt F) ((slotM j).view.loc (c : Thread nD τ))) : sProp 𝕄 :=
  (slotM j).view.loc (c : Thread nD τ) ↦[(slotM j).view.set]{fullShare} f
/-- at some contents, -/
def slotAny (c j : Dev nD) : sProp 𝕄 := iprop(∃ f, slotPts c j f)
/-- at contents that read as the row `X`. -/
def slotAt (c j : Dev nD) (X : FVec F S1x1024 .f32) : sProp 𝕄 :=
  iprop(∃ f, ⌜(slotM j).view.read (Elt F) f = X⌝ ∗ slotPts c j f)

/-- A share of the total of device `c`. -/
def totPts (c : Dev nD) (q : PosShare TreeShare) : sProp 𝕄 :=
  (totM.view.loc (c : Thread nD τ)) ↦[totM.view.set]{q} tot m c

omit [FloatOps F] in
instance slotPts_storable (c j : Dev nD) (f) : BI.Storable (upEmb : UEmb _ 𝕄) (slotPts (F := F) c j f) := by unfold slotPts; infer_instance
omit [FloatOps F] in
instance slotAny_storable (c j : Dev nD) : BI.Storable (upEmb : UEmb _ 𝕄) (slotAny (F := F) c j) := by unfold slotAny; infer_instance
omit [FloatOps F] in
instance slotAt_storable (c j : Dev nD) (X) : BI.Storable (upEmb : UEmb _ 𝕄) (slotAt (F := F) c j X) := by unfold slotAt; infer_instance
instance totPts_storable (c : Dev nD) (q) : BI.Storable (upEmb : UEmb _ 𝕄) (totPts (F := F) m c q) := by unfold totPts; infer_instance

/-- The share left after `n` halvings, the right half each time. -/
def remShare : ℕ → PosShare TreeShare
  | 0 => fullShare
  | n + 1 => (remShare n).right

/-- The share of the total that the copy from `j` to `t` reads: what the copies before it left, or its left half when more follow. -/
def shr (j t : Dev nD) : PosShare TreeShare :=
  if t = 3 then remShare (t.val - j.val - 1) else (remShare (t.val - j.val - 1)).left

/-- What device `t`'s unit on the barrier of `c` brings. -/
def barPay (c t : Dev nD) : sProp 𝕄 :=
  if c < t then iprop(slotAny t c ∗ reached ER (rcvCell t c) 0) else iprop(emp)

/-! ## The schedule -/

/-- The duties of round 0 of a cell of device `c` that is for `k`: on a barrier cell one unit by every other device, on a send or
receive cell in use one landing. -/
def dutiesOf (c : Dev nD) : Kind → Finset (Dev nD)
  | .bar => Finset.univ.erase c
  | .snd t => if c < t then {0} else ∅
  | .rcv j => if j < c then {0} else ∅
  | .other => ∅

/-- The units of a duty, -/
def amountOf : Kind → ℕ
  | .bar => 1
  | _ => N

/-- and what it brings. -/
def payOf (c d : Dev nD) : Kind → sProp 𝕄
  | .bar => barPay c d
  | .snd t => totPts m c (shr c t)
  | .rcv j => slotAt c j (tot m j)
  | .other => iprop(emp)

theorem amountOf_pos : ∀ k, 0 < amountOf k
  | .bar => Nat.one_pos
  | .snd _ => N_pos
  | .rcv _ => N_pos
  | .other => N_pos

instance barPay_storable (c t : Dev nD) : BI.Storable (upEmb : UEmb _ 𝕄) (barPay (F := F) c t) := by
  unfold barPay; split <;> infer_instance

instance payOf_storable (c d : Dev nD) (k : Kind) : BI.Storable (upEmb : UEmb _ 𝕄) (payOf (F := F) m c d k) := by
  cases k
  · show BI.Storable _ (barPay c d); infer_instance
  · show BI.Storable _ (totPts m c _); infer_instance
  · show BI.Storable _ (slotAt c _ _); infer_instance
  · show BI.Storable _ iprop(emp); infer_instance

/-- The schedule: one round on every cell. -/
def rd : Rounds.Schedule (GSem nD τ sig) (Dev nD) 𝕄 where
  duties g r := if r = 0 then dutiesOf g.1.1 (kind g.2) else ∅
  unitless _ := False
  amount g _ _ := amountOf (kind g.2)
  payload g _ d := payOf m g.1.1 d (kind g.2)
  amount_pos g _ _ _ := amountOf_pos (kind g.2)

instance rd_payload_storable (g : GSem nD τ sig) (r : ℕ) (d : Dev nD) :
    BI.Storable (upEmb : UEmb _ 𝕄) ((rd (F := F) m).payload g r d) := payOf_storable m g.1.1 d (kind g.2)

theorem duties_zero (c : Dev nD) (sm : SemLoc sig) {k : Kind} (h : kind sm = k) :
    (rd (F := F) m).duties ((c : Thread nD τ), sm) 0 = dutiesOf c k := by
  show (if (0 : ℕ) = 0 then dutiesOf c (kind sm) else ∅) = _
  rw [if_pos rfl, h]
theorem amount_of (c : Dev nD) (sm : SemLoc sig) {k : Kind} (h : kind sm = k) (r : ℕ) (d : Dev nD) :
    (rd (F := F) m).amount ((c : Thread nD τ), sm) r d = amountOf k := congrArg amountOf h
theorem payload_of (c : Dev nD) (sm : SemLoc sig) {k : Kind} (h : kind sm = k) (r : ℕ) (d : Dev nD) :
    (rd (F := F) m).payload ((c : Thread nD τ), sm) r d = payOf m c d k := congrArg (payOf m c d) h

theorem lt_three {j c : Dev nD} (h : j < c) : j < 3 := by
  have : c.val < 4 := c.isLt; rw [Fin.lt_def] at h ⊢; show j.val < 3; omega

theorem duties_bar (c : Dev nD) : (rd (F := F) m).duties (barCell c) 0 = Finset.univ.erase c :=
  duties_zero m c _ kind_bar
theorem duties_snd (c t : Dev nD) (h : c < t) : (rd (F := F) m).duties (sndCell c t) 0 = {0} :=
  (duties_zero m c _ (kind_snd t)).trans (if_pos h)
theorem duties_rcv (c j : Dev nD) (h : j < c) : (rd (F := F) m).duties (rcvCell c j) 0 = {0} :=
  (duties_zero m c _ (kind_rcv j (lt_three h))).trans (if_pos h)
theorem duties_later (g : GSem nD τ sig) : ∀ r, 1 ≤ r → (rd (F := F) m).duties g r = ∅ :=
  fun r hr => if_neg fun h => by omega
theorem duties_snd_none (c t : Dev nD) (h : ¬ c < t) : ∀ r, 0 ≤ r → (rd (F := F) m).duties (sndCell c t) r = ∅
  | 0, _ => (duties_zero m c _ (kind_snd t)).trans (if_neg h)
  | r + 1, _ => duties_later m _ _ (Nat.le_add_left 1 r)
theorem duties_rcv_none (c j : Dev nD) (h3 : j < 3) (h : ¬ j < c) : ∀ r, 0 ≤ r → (rd (F := F) m).duties (rcvCell c j) r = ∅
  | 0, _ => (duties_zero m c _ (kind_rcv j h3)).trans (if_neg h)
  | r + 1, _ => duties_later m _ _ (Nat.le_add_left 1 r)

theorem amount_bar (c d : Dev nD) : (rd (F := F) m).amount (barCell c) 0 d = 1 := amount_of m c _ kind_bar 0 d
theorem amount_snd (c t d : Dev nD) : (rd (F := F) m).amount (sndCell c t) 0 d = N := amount_of m c _ (kind_snd t) 0 d
theorem amount_rcv (c j d : Dev nD) (h : j < 3) : (rd (F := F) m).amount (rcvCell c j) 0 d = N := amount_of m c _ (kind_rcv j h) 0 d

theorem payload_bar (c d : Dev nD) : (rd (F := F) m).payload (barCell c) 0 d = barPay c d := payload_of m c _ kind_bar 0 d
theorem payload_snd (c t d : Dev nD) : (rd (F := F) m).payload (sndCell c t) 0 d = totPts m c (shr c t) := payload_of m c _ (kind_snd t) 0 d
theorem payload_rcv (c j d : Dev nD) (h : j < 3) : (rd (F := F) m).payload (rcvCell c j) 0 d = slotAt c j (tot m j) :=
  payload_of m c _ (kind_rcv j h) 0 d

theorem expect_bar (c : Dev nD) : (rd (F := F) m).expect (barCell c) 0 = 3 := by
  unfold Schedule.expect Schedule.amountOf
  rw [duties_bar, Finset.sum_congr rfl fun d _ => amount_bar m c d, Finset.sum_const, smul_eq_mul, mul_one]
  revert c; decide
theorem expect_snd (c t : Dev nD) (h : c < t) : (rd (F := F) m).expect (sndCell c t) 0 = N := by
  unfold Schedule.expect Schedule.amountOf; rw [duties_snd m c t h, Finset.sum_singleton, amount_snd]
theorem expect_rcv (c j : Dev nD) (h : j < c) : (rd (F := F) m).expect (rcvCell c j) 0 = N := by
  unfold Schedule.expect Schedule.amountOf; rw [duties_rcv m c j h, Finset.sum_singleton, amount_rcv m c j 0 (lt_three h)]

/-! ## What is owed, and the levels -/

/-- The unit device `c` owes the barrier of `t ≠ c`; -/
def sg (c t : Dev nD) : CellTallies nD τ sig Unit := if c = t then 0 else tallyAt (barCell t) () 1
/-- the credit of its copy to a later device `t`. -/
def sd (c t : Dev nD) : CellTallies nD τ sig Unit := if c < t then tallyAt (rcvCell t c) () N else 0

/-- What device `c` owes after its barrier: its copies. -/
def OR (c : Dev nD) : CellTallies nD τ sig Unit := ∑ t : Dev nD, sd c t
/-- What it owes at launch: its three units and its copies. -/
def O₀ (c : Dev nD) : CellTallies nD τ sig Unit := (∑ t : Dev nD, sg c t) + OR c

/-- Every cell of a TensorCore is levelled at the one index; -/
def L (g : GSem nD τ sig) : Finset Unit := if g.1.2 = .tc then {()} else ∅
/-- barrier 1, receive 2, the rest 0. -/
def lv (g : GSem nD τ sig) (_ : Unit) : ℕ := match kind g.2 with | .bar => 1 | .rcv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-- Where a device owes after its barrier: receive cells, at level 2. -/
theorem OR_pos {c : Dev nD} {g : GSem nD τ sig} {u : Unit} (h : 0 < OR c g u) : u ∈ L g ∧ 1 < lv g u := by
  unfold OR at h
  rw [Finset.sum_apply, Finsupp.finsetSum_apply] at h
  obtain ⟨t, -, ht⟩ := Finset.exists_ne_zero_of_sum_ne_zero h.ne'
  unfold sd at ht
  split at ht
  · rename_i hct
    obtain ⟨rfl, -⟩ := Pipeline.tallyAt_pos (Nat.pos_of_ne_zero ht)
    refine ⟨by rw [L_tc]; exact Finset.mem_singleton_self _, ?_⟩
    unfold lv; dsimp only; rw [kind_rcv c (lt_three hct)]; exact Nat.lt_succ_self 1
  · exact absurd rfl ht

/-- Where it owes at launch: those and barrier cells, above level 0. -/
theorem O₀_pos {c : Dev nD} {g : GSem nD τ sig} {u : Unit} (h : 0 < O₀ c g u) : u ∈ L g ∧ 0 < lv g u := by
  unfold O₀ at h
  rw [Pi.add_apply, Finsupp.add_apply] at h
  by_cases h2 : 0 < OR c g u
  · exact ⟨(OR_pos h2).1, (OR_pos h2).2.trans' Nat.one_pos⟩
  have h1 : 0 < (∑ t : Dev nD, sg c t) g u := by omega
  rw [Finset.sum_apply, Finsupp.finsetSum_apply] at h1
  obtain ⟨t, -, ht⟩ := Finset.exists_ne_zero_of_sum_ne_zero h1.ne'
  unfold sg at ht
  split at ht
  · exact absurd rfl ht
  · obtain ⟨rfl, -⟩ := Pipeline.tallyAt_pos (Nat.pos_of_ne_zero ht)
    refine ⟨by rw [L_tc]; exact Finset.mem_singleton_self _, ?_⟩
    unfold lv; dsimp only; rw [kind_bar]; exact Nat.one_pos

omit [FloatOps F] in
/-- A device may wait on its barrier cell while it owes its copies. -/
theorem mayWait_bar (c : Dev nD) : (levAts L lv : sProp 𝕄) ⊢ MayWait (c : Thread nD τ) (.reg barS) () (OR c) :=
  MayOwe.of_cut (L := L) (lev := lv) 1
    (fun p hp => by rw [Finset.mem_singleton.mp hp, L_tc]; exact Finset.mem_singleton_self _)
    (fun g u hg => (OR_pos hg).1)
    (fun p hp => by rw [Finset.mem_singleton.mp hp]; unfold lv; dsimp only; rw [kind_bar])
    (fun g u hg => (OR_pos hg).2)

end Cert.Proof

end
-- ==== Proof.Steps.lean ====
/-
  One step of the exchange at a time, at symbolic devices: a unit on a barrier, the wait for three, a copy of the total to a later
  device, the wait for it, the wait for the copy of an earlier one, and the loads and stores at one slot.
-/
module

public import proofs.«01_k».proof.Proof.Proto

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ UU ℕ

/-! ## Small tools -/

omit [FloatOps F] in
/-- A family over the four devices, one by one. -/
theorem bigSep_dev (Φ : Dev nD → sProp 𝕄) : bigSep Finset.univ Φ = iprop(Φ 0 ∗ Φ 1 ∗ Φ 2 ∗ Φ 3) :=
  bigSep_univ_eq_bigSepL [(0 : Dev nD), 1, 2, 3] (by decide) (by decide) Φ

/-- `X` if `p`, else nothing. -/
def given (p : Prop) [Decidable p] (X : sProp 𝕄) : sProp 𝕄 := if p then X else iprop(emp)

omit [FloatOps F] in
theorem given_pos {p : Prop} [Decidable p] (h : p) (X : sProp 𝕄) : given p X = X := if_pos h
omit [FloatOps F] in
theorem given_neg {p : Prop} [Decidable p] (h : ¬ p) (X : sProp 𝕄) : given p X = iprop(emp) := if_neg h

/-- A program run in two parts: the first part uses `S` and makes `S'`, the second starts from that and from what was left. -/
theorem wp_stage {c : Dev nD} {α : Type} {Pre S S' R : sProp 𝕄} {P : Prog (TpuEff nD τ sig (Elt F) Λ₀ .tc) PUnit}
    {k : PUnit → Prog (TpuEff nD τ sig (Elt F) Λ₀ .tc) α} {Q : α → sProp 𝕄}
    (h0 : Pre ⊢ iprop(S ∗ R))
    (h1 : S ⊢ wp frame (wpE (defs₀ (F := F)) 𝒱₀ (c : Thread nD τ) none) Set.univ P (fun _ => S'))
    (h2 : iprop(S' ∗ R) ⊢ wp frame (wpE (defs₀ (F := F)) 𝒱₀ (c : Thread nD τ) none) Set.univ (k ⟨⟩) Q) :
    Pre ⊢ wp frame (wpE (defs₀ (F := F)) 𝒱₀ (c : Thread nD τ) none) Set.univ (P >>= k) Q := by
  rw [wp_bind]
  exact h0.trans ((sep_mono_left h1).trans ((wp_frame_r frame _ Set.univ).trans (wp_mono frame _ Set.univ fun _ => h2)))

/-! ## The records -/

variable (m : (ℓ : Loc nD τ sig) → Buf (Elt F) ℓ) (K : GSem nD τ sig → ℕ)

/-- The barrier cells, -/
def barCells : Finset (GSem nD τ sig) :=
  Finset.univ.map ⟨fun c : Dev nD => barCell c, fun a b h => by injection h with h _; exact congrArg Prod.fst h⟩
/-- and the kernel's send and receive cells. -/
def ownCells : Finset (GSem nD τ sig) :=
  (Finset.univ : Finset (Dev nD × Fin 7)).map ⟨fun p => ownCell p.1 p.2, fun a b h => by
    injection h with h h'
    injection h' with h'
    have := congrArg Fin.val h'
    exact Prod.ext (congrArg (fun t : Thread nD τ => t.1) h) (Fin.ext (by simpa using this))⟩

/-- What every device may consult: each cell follows the schedule, and round 0 of every barrier cell is reached. -/
def records : sProp 𝕄 :=
  iprop(bigSep (barCells ∪ ownCells) (fun g => cellInv ER (rd (F := F) m) (K g) g) ∗ bigSep barCells (fun g => reached ER g 0))

instance records_persistent : BI.Persistent (records (F := F) m K) := by unfold records; infer_instance

theorem records_inv {g : GSem nD τ sig} (h : g ∈ barCells ∪ ownCells) : records m K ⊢ cellInv ER (rd (F := F) m) (K g) g := by
  unfold records; exact sep_elim_left.trans (bigSep_elim h)

theorem bar_mem (c : Dev nD) : barCell c ∈ barCells ∪ ownCells :=
  Finset.mem_union_left _ (Finset.mem_map_of_mem _ (Finset.mem_univ c))
theorem own_mem (c : Dev nD) (k : Fin 7) : ownCell c k ∈ barCells ∪ ownCells :=
  Finset.mem_union_right _ (Finset.mem_map.mpr ⟨(c, k), Finset.mem_univ _, rfl⟩)

/-- Send semaphore `t` and receive semaphore `j` among the kernel's seven. -/
def sndK (t : Dev nD) : Fin 7 := ⟨t.val, by have : t.val < 4 := t.isLt; omega⟩
def rcvK (j : Dev nD) : Fin 7 := ⟨4 + min j.val 2, by omega⟩

theorem sndCell_eq (c t : Dev nD) : sndCell c t = ownCell c (sndK t) := rfl
theorem rcvCell_eq (c j : Dev nD) (h : j < 3) : rcvCell c j = ownCell c (rcvK j) := by revert c j; decide

theorem snd_mem (c t : Dev nD) : sndCell c t ∈ barCells ∪ ownCells := own_mem c (sndK t)
theorem rcv_mem (c j : Dev nD) (h : j < 3) : rcvCell c j ∈ barCells ∪ ownCells := rcvCell_eq c j h ▸ own_mem c (rcvK j)

theorem records_bar (c : Dev nD) : records m K ⊢ reached ER (barCell c) 0 := by
  unfold records
  exact sep_elim_right.trans (bigSep_elim (Finset.mem_map_of_mem _ (Finset.mem_univ c)))

/-! ## The barrier -/

/-- Device `c`'s unit on the barrier of `d`. -/
theorem wp_sig (c d n : Dev nD) (hn : n = d) (hcd : c ≠ d) {α : Type} {Q : α → sProp 𝕄}
    {k : PUnit → Prog (TpuEff nD τ sig (Elt F) Λ₀ .tc) α} (R : CellTallies nD τ sig Unit) (W : Waits sig Unit) :
    iprop(records m K ∗ owes (c : Thread nD τ) (R + sg c d) W ∗ dutyTok ER (barCell d) 0 c ∗ barPay d c)
      ⊢ iprop((owes (c : Thread nD τ) R W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  subst hn
  iintro ⟨#HR, HO, Ht, Hp⟩ Hk
  iapply (Rounds.wp_signal 𝒱₀ ER (rd (F := F) m) (c : Thread nD τ) none (dst := (n : Thread nD τ)) (κ := K (barCell n)) (r := 0)
      (d := c) (by rw [duties_bar]; exact Finset.mem_erase.mpr ⟨hcd, Finset.mem_univ _⟩) (amount_bar m n c) () R
      (show R + sg c n = R + tallyAt (barCell n) () 1 by unfold sg; rw [if_neg hcd])) $$ [HO Ht Hp]
  · isplitr; · iapply (records_inv m K (bar_mem n)); iexact HR
    isplitl [HO]; · iexact HO
    isplitl [Ht]; · iexact Ht
    isplitl [Hp]; · rw [payload_bar]; iexact Hp
    iapply (records_bar m K n); iexact HR
  iexact Hk

/-- What the three units on a barrier bring, over all four devices (its own entry is nothing). -/
theorem rest_bar (c : Dev nD) :
    bigSep ((rd (F := F) m).duties (barCell c) 0 \ ∅) (fun d => (rd (F := F) m).payload (barCell c) 0 d)
      = bigSep Finset.univ (fun t => barPay (F := F) c t) := by
  rw [duties_bar, Finset.sdiff_empty, bigSep_univ_split c (Φ := fun t => barPay (F := F) c t)]
  rw [show barPay (F := F) c c = iprop(emp) from if_neg (lt_irrefl c)]
  exact (bigSep_congr fun d _ => payload_bar m c d).trans (equiv_iff.mp emp_sep).symm

/-- The wait for the three units. -/
theorem wp_bar (c : Dev nD) {α : Type} {Q : α → sProp 𝕄} {k : PUnit → Prog (TpuEff nD τ sig (Elt F) Λ₀ .tc) α} (W : Waits sig Unit) :
    iprop(records m K ∗ levAts L lv ∗ cred (tallyAt (barCell c) () 3) ∗ owes (c : Thread nD τ) (OR c) W ∗ atPos ER (barCell c) 0 ∅ 0)
      ⊢ iprop(((owes (c : Thread nD τ) (OR c) (insert (.reg barS, ()) W) ∗ atPos ER (barCell c) 1 ∅ 0
            ∗ bigSep Finset.univ (fun t => barPay (F := F) c t))
          -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  iintro ⟨#HR, #HL, Hc, HO, Ha⟩ Hk
  iapply (Rounds.wp_wait_rest_token 𝒱₀ ER (rd (F := F) m) (c : Thread nD τ) none (κ := K (barCell c))
      (wpE_semWait_eq 𝒱₀ (c : Thread nD τ) none Set.univ) (Set.mem_univ _) () (O := OR c) (W := W) (R := 0) (m := 0) (T := ∅)
      (by rw [expect_bar])) $$ [Hc HO Ha]
  · isplitr; · iapply (records_inv m K (bar_mem c)); iexact HR
    isplitl [Hc]; · iexact Hc
    isplitl [HO]; · iexact HO
    isplitr; · iapply (mayWait_bar c); iexact HL
    iexact Ha
  iintro ⟨HO, Ha, -, Hp⟩
  iapply Hk
  isplitl [HO]; · iexact HO
  isplitl [Ha]; · iexact Ha
  iapply (Entails.of_eq (rest_bar m c)); iexact Hp

/-! ## The copies -/

/-- What device `c` needs for its copy to `t`: for a later `t`, slot `c` of `t` and that `t` has opened its receive cell; the tokens of
both landings; and its own send cell at round 0. -/
def sendItem (c t : Dev nD) : sProp 𝕄 :=
  iprop(barPay c t ∗ dutyTok ER (sndCell c t) 0 0 ∗ dutyTok ER (rcvCell t c) 0 0 ∗ reached ER (sndCell c t) 0)

/-- What the copy from `c` leaves in slot `c` of `t`. -/
theorem landed (c t : Dev nD) (f : Buf (Elt F) ((slotM c).view.loc (t : Thread nD τ))) :
    ((slotM c).view.loc (t : Thread nD τ) ↦[(slotM c).view.set]{fullShare}
        ((slotM c).view.write (Elt F) f (totM.view.read (Elt F) (tot m c)) Finset.univ) : sProp 𝕄)
      ⊢ slotAt t c (tot m c) := by
  unfold slotAt slotPts
  iintro H
  iexists ((slotM c).view.write (Elt F) f (totM.view.read (Elt F) (tot m c)) Finset.univ)
  isplitr
  · ipureintro
    rw [View.read_write_univ]
    exact View.read_whole _ _
  iexact H

/-- The copy of the total to a later device. -/
theorem wp_snd (c t n : Dev nD) (h : c < t) (hn : n = t) {sl : Memref sig .tc .vmem S1x1024 .f32} (hsl : sl = slotM c)
    {qs qr : DmaSem sig} (hqs : qs = sndS t) (hqr : qr = rcvS c)
    {hsc : (sl : Memref sig (Dev.tc n : Thread nD τ).2.kind .vmem S1x1024 .f32).view.ref.isScScratch = false}
    {hsrc : totM.view.WordExact} {hdst : sl.view.WordExact}
    {hsem : DmaTarget.Typed .vmem (.dma qr) (.remote (Dev.tc n : Thread nD τ) sl (.dma qs) hsc)}
    {α : Type} {Q : α → sProp 𝕄} {k : PUnit → Prog (TpuEff nD τ sig (Elt F) Λ₀ .tc) α} (R : CellTallies nD τ sig Unit) (W : Waits sig Unit) :
    iprop(records m K ∗ owes (c : Thread nD τ) (R + sd c t) W ∗ totPts m c (shr c t) ∗ sendItem c t)
      ⊢ iprop(((cred (tallyAt (sndCell c t) () N) ∗ owes (c : Thread nD τ) R W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma totM (.remote (Dev.tc n : Thread nD τ) sl (.dma qs) hsc) (.dma qr) hsrc hdst hsem) k) Q) := by
  subst hn hsl hqs hqr
  have h3 := lt_three h
  unfold sendItem barPay
  rw [if_pos h]
  unfold slotAny slotPts totPts
  iintro ⟨#HR, HO, Hx, ⟨⟨%f, Hs⟩, #Hr⟩, Ht1, Ht2, #Hr1⟩ Hk
  iapply (Rounds.wp_send_pointsTo 𝒱₀ ER (rd (F := F) m) (c : Thread nD τ) none (κ₁ := K (sndCell c n)) (κ₂ := K (rcvCell n c))
    (r₁ := 0) (r₂ := 0) (d₁ := 0) (d₂ := 0) (fd := f)
    (by rw [duties_snd m c n h]; exact Finset.mem_singleton_self _) (by rw [duties_rcv m n c h]; exact Finset.mem_singleton_self _)
    () () N (show (slotM c).view.amount (.dma (rcvS c)) = N from N_slot c) (amount_snd m c n 0) (amount_rcv m n c 0 h3) R (show R + sd c n = R + tallyAt (rcvCell n c) () N by unfold sd; rw [if_pos h]) (W := W)
    (by rw [payload_snd]; exact BI.Entails.refl _)
    (by rw [payload_rcv m n c 0 h3]; exact landed m c n f)) $$ [Hx Hs HO Ht1 Ht2]
  · isplitr; · iapply (records_inv m K (snd_mem c n)); iexact HR
    isplitr; · iapply (records_inv m K (rcv_mem n c h3)); iexact HR
    isplitl [Hx]; · iexact Hx
    isplitl [Hs]; · iexact Hs
    isplitl [HO]; · iexact HO
    isplitl [Ht1]; · iexact Ht1
    isplitr; · iexact Hr1
    isplitl [Ht2]; · iexact Ht2
    iexact Hr
  iexact Hk

/-- The wait for the copy to `t`: the share of the total comes back. -/
theorem wp_wsnd (c t : Dev nD) (h : c < t) {src : Memref sig .tc .vmem S1x1024 .f32}
    {q : DmaSem sig} (hq : q = sndS t) {hsrc : src.view.WordExact} {hdst : totM.view.WordExact}
    {α : Type} {Q : α → sProp 𝕄} {k : PUnit → Prog (TpuEff nD τ sig (Elt F) Λ₀ .tc) α} (W : Waits sig Unit) :
    iprop(records m K ∗ cred (tallyAt (sndCell c t) () N) ∗ owes (c : Thread nD τ) 0 W ∗ atPos ER (sndCell c t) 0 ∅ 0)
      ⊢ iprop(((owes (c : Thread nD τ) 0 (insert (.dma (sndS t), ()) W) ∗ atPos ER (sndCell c t) 1 ∅ 0 ∗ totPts m c (shr c t))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src totM hsrc hdst) k) Q) := by
  subst hq
  iintro ⟨#HR, Hc, HO, Ha⟩ Hk
  iapply (Rounds.wp_wait_rest_token 𝒱₀ ER (rd (F := F) m) (c : Thread nD τ) none (κ := K (sndCell c t))
      (wpE_waitDma2_eq 𝒱₀ (c : Thread nD τ) none Set.univ) (Set.mem_univ _) () (O := 0) (W := W) (R := 0) (m := 0) (T := ∅)
      (by rw [Nat.zero_add, expect_snd m c t h])) $$ [Hc HO Ha]
  · isplitr; · iapply (records_inv m K (snd_mem c t)); iexact HR
    isplitl [Hc]; · iexact Hc
    isplitl [HO]; · iexact HO
    isplitr; · rw [MayWait_zero]; iempintro
    iexact Ha
  iintro ⟨HO, Ha, -, Hp⟩
  iapply Hk
  isplitl [HO]; · iexact HO
  isplitl [Ha]; · iexact Ha
  iapply (Entails.of_eq (show bigSep ((rd (F := F) m).duties (sndCell c t) 0 \ ∅) (fun d => (rd (F := F) m).payload (sndCell c t) 0 d)
      = totPts m c (shr c t) by rw [duties_snd m c t h, Finset.sdiff_empty, bigSep_singleton, payload_snd])); iexact Hp

/-- The wait for the copy of an earlier device: its total comes in its slot. -/
theorem wp_wrcv (c j : Dev nD) (h : j < c) {src dst : Memref sig .tc .vmem S1x1024 .f32} (hdl : dst = slotM j)
    {q : DmaSem sig} (hq : q = rcvS j) {hsrc : src.view.WordExact} {hdst : dst.view.WordExact}
    {α : Type} {Q : α → sProp 𝕄} {k : PUnit → Prog (TpuEff nD τ sig (Elt F) Λ₀ .tc) α} (W : Waits sig Unit) :
    iprop(records m K ∗ cred (tallyAt (rcvCell c j) () N) ∗ owes (c : Thread nD τ) 0 W ∗ atPos ER (rcvCell c j) 0 ∅ 0)
      ⊢ iprop(((owes (c : Thread nD τ) 0 (insert (.dma (rcvS j), ()) W) ∗ atPos ER (rcvCell c j) 1 ∅ 0 ∗ slotAt c j (tot m j))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq hdl
  have h3 := lt_three h
  iintro ⟨#HR, Hc, HO, Ha⟩ Hk
  iapply (Rounds.wp_wait_rest_token 𝒱₀ ER (rd (F := F) m) (c : Thread nD τ) none (κ := K (rcvCell c j))
      (wpE_waitDma2_eq 𝒱₀ (c : Thread nD τ) none Set.univ) (Set.mem_univ _) () (O := 0) (W := W) (R := 0) (m := 0) (T := ∅)
      (by rw [Nat.zero_add, expect_rcv m c j h, N_slot])) $$ [Hc HO Ha]
  · isplitr; · iapply (records_inv m K (rcv_mem c j h3)); iexact HR
    isplitl [Hc]; · rw [N_slot]; iexact Hc
    isplitl [HO]; · iexact HO
    isplitr; · rw [MayWait_zero]; iempintro
    iexact Ha
  iintro ⟨HO, Ha, -, Hp⟩
  iapply Hk
  isplitl [HO]; · iexact HO
  isplitl [Ha]; · iexact Ha
  iapply (Entails.of_eq (show bigSep ((rd (F := F) m).duties (rcvCell c j) 0 \ ∅) (fun d => (rd (F := F) m).payload (rcvCell c j) 0 d)
      = slotAt c j (tot m j) by rw [duties_rcv m c j h, Finset.sdiff_empty, bigSep_singleton, payload_rcv m c j 0 h3])); iexact Hp

/-! ## Loads and stores at a slot -/

theorem slot_set (j : Dev nD) : (rcvM.access (slotR j)).set = (slotM j).view.set := (View.set_reshape _ _).symm

/-- Reading a slot through the buffer and reading it as a row. -/
theorem slot_read (j : Dev nD) (f : rcvM.view.ty.Contents (Elt F)) :
    shapeCast S1x1024 ((rcvM.access (slotR j)).read (Elt F) f) shapeCasts_S1x1x1024_S1x1024 = (slotM j).view.read (Elt F) f := rfl

/-- Storing a slot's worth. -/
theorem slot_write (j : Dev nD) (f : rcvM.view.ty.Contents (Elt F)) (w : FVec F S1x1x1024 .f32) :
    (slotM j).view.read (Elt F) ((rcvM.access (slotR j)).write (Elt F) f w Finset.univ)
      = shapeCast S1x1024 w shapeCasts_S1x1x1024_S1x1024 := by
  rw [← slot_read, View.read_write_univ]

/-- A load of slot `j`, which holds the row `X`. -/
theorem wp_ldslot (c j : Dev nD) {r : Rect S3x1x1024} (hr : r = slotR j) (X : FVec F S1x1024 .f32) {hl : rcvM.view.LoadsAt r.toLoadRect}
    {α : Type} {Q : α → sProp 𝕄} {k : (r.shape.Idx → Elt F .f32) → Prog (TpuEff nD τ sig (Elt F) Λ₀ .tc) α} :
    slotAt c j X
      ⊢ iprop((∀ v, ⌜∃ f, v = (rcvM.access r).read (Elt F) f ∧ (slotM j).view.read (Elt F) f = X⌝ -∗ slotAt c j X
            -∗ wp frame (wpE (defs₀ (F := F)) 𝒱₀ (c : Thread nD τ) none) Set.univ (k v) Q)
          -∗ wp frame (wpE (defs₀ (F := F)) 𝒱₀ (c : Thread nD τ) none) Set.univ (.op (.load rcvM r.toLoadRect hl) k) Q) := by
  subst hr
  unfold slotAt slotPts
  iintro ⟨%f, %hf, H⟩ Hk
  iapply (wp_load_rect 𝒱₀ (c : Thread nD τ) none Set.univ (m := rcvM) (r := slotR j) (S := (slotM j).view.set) (f := f) (slot_set j).subset) $$ H
  iintro H
  iapply Hk $$ %_ %(⟨f, rfl, hf⟩)
  iexists f
  isplitr; · ipureintro; exact hf
  iexact H

end Cert.Proof

end
-- ==== Proof.Owned.lean ====
/-
  Whole loads and stores of a memref that is owned at known contents, and what ownership of a whole buffer says.
-/
module

public import proofs.«01_k».proof.Proof.Proto
public import Idealize.ShloMosaic.Lib.Pipeline.FrameBody
public import Idealize.ShloMosaic.Lib.Pipeline.Value

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem zeros2 : (![0, 0] : Fin 2 → Nat) = fun _ => 0 := funext fun a => by fin_cases a <;> rfl

/-- A load of all of a memref reads what it is owned at. -/
theorem wp_ldown (c : Dev nD) {sp : CoreSpace} {s : Shape} {e : EltTy} (mr : Memref sig .tc sp s e) {off : Fin s.rank → Nat}
    (hz : off = fun _ => 0) {inb : ∀ a, off a + s.size a ≤ s.size a} (q : PosShare TreeShare) (X : s.Idx → Elt F e)
    {hl : mr.view.LoadsAt (Rect.unit off s.size inb).toLoadRect}
    {α : Type} {Q : α → sProp 𝕄} {k : (s.Idx → Elt F e) → Prog (TpuEff nD τ sig (Elt F) Λ₀ .tc) α} :
    (owns (c : Thread nD τ) mr q X : sProp 𝕄)
      ⊢ iprop((owns (c : Thread nD τ) mr q X -∗ wp frame (wpE (defs₀ (F := F)) 𝒱₀ (c : Thread nD τ) none) Set.univ (k X) Q)
          -∗ wp frame (wpE (defs₀ (F := F)) 𝒱₀ (c : Thread nD τ) none) Set.univ
              (.op (.load mr (Rect.unit off s.size inb).toLoadRect hl) k) Q) := by
  unfold owns
  iintro ⟨%f, %hf, H⟩ Hk
  iapply (wp_load 𝒱₀ (c : Thread nD τ) none Set.univ (m := mr) (S := mr.view.set) (f := f)
    (Finset.map_subset_map.mpr (Finset.subset_univ _))) $$ H
  iintro H
  rw [View.readAt_eq_ld, hf, View.ld_unit_zero hz]
  iapply Hk
  iexists f
  isplitr; · ipureintro; exact hf
  iexact H

/-- A store over all of a memref leaves it owned at what was stored. -/
theorem wp_stown (c : Dev nD) {sp : CoreSpace} {s : Shape} {e : EltTy} (mr : Memref sig .tc sp s e) {off : Fin s.rank → Nat}
    (hz : off = fun _ => 0) {inb : ∀ a, off a + s.size a ≤ s.size a} (X : s.Idx → Elt F e) (w : s.Idx → Elt F e)
    {hx : (mr.access (Rect.unit off s.size inb)).Stores Finset.univ}
    {hm : Finset.univ = Finset.univ ∨ ∀ a, (Rect.unit (s := s) off s.size inb).stride a = 1}
    {α : Type} {Q : α → sProp 𝕄} {k : PUnit → Prog (TpuEff nD τ sig (Elt F) Λ₀ .tc) α} :
    (owns (c : Thread nD τ) mr fullShare X : sProp 𝕄)
      ⊢ iprop((owns (c : Thread nD τ) mr fullShare w -∗ wp frame (wpE (defs₀ (F := F)) 𝒱₀ (c : Thread nD τ) none) Set.univ (k ⟨⟩) Q)
          -∗ wp frame (wpE (defs₀ (F := F)) 𝒱₀ (c : Thread nD τ) none) Set.univ
              (.op (.store mr (Rect.unit off s.size inb) w Finset.univ hx hm) k) Q) := by
  subst hz
  unfold owns
  iintro ⟨%f, -, H⟩ Hk
  iapply (wp_store 𝒱₀ (c : Thread nD τ) none Set.univ (m := mr) (r := Rect.unit (fun _ => 0) s.size inb) (w := w) (Mk := Finset.univ)
    (S := mr.view.set) (f := f) (View.set_slice_subset _ _)) $$ H
  iintro H
  iapply Hk
  iexists _
  isplitr
  rotate_left
  · iexact H
  · ipureintro
    have h := View.read_write_univ (Val := Elt F) (v := mr.access (Rect.unit (fun _ => 0) s.size inb)) f w
    have h' : (mr.access (Rect.unit (fun _ => 0) s.size inb)).read (Elt F)
        ((mr.access (Rect.unit (fun _ => 0) s.size inb)).write (Elt F) f w Finset.univ)
        = View.ld (mr.view.read (Elt F) ((mr.access (Rect.unit (fun _ => 0) s.size inb)).write (Elt F) f w Finset.univ))
            (Rect.unit (fun _ => 0) s.size inb) := rfl
    rw [h', View.ld_unit_zero rfl] at h
    exact h

omit [FloatOps F] in
/-- A whole buffer is owned at its contents. -/
theorem owns_whole (c : Dev nD) (b : Ref sig .tc) (q : PosShare TreeShare) (X : b.ty.Contents (Elt F)) :
    (owns (c : Thread nD τ) (Memref.whole b) q X : sProp 𝕄) = iprop(((c : Thread nD τ).loc b) ↦{q} X) := by
  have h1 : (owns (c : Thread nD τ) (Memref.whole b) q X : sProp 𝕄) ⊢ iprop(((c : Thread nD τ).loc b) ↦{q} X) := by
    unfold owns
    simp only [Memref.view_whole, View.read_whole, View.set_whole]
    iintro ⟨%f, %hf, H⟩
    subst hf
    iexact H
  have h2 : (iprop(((c : Thread nD τ).loc b) ↦{q} X) : sProp 𝕄) ⊢ owns (c : Thread nD τ) (Memref.whole b) q X := by
    unfold owns
    simp only [Memref.view_whole, View.read_whole, View.set_whole]
    iintro H
    iexists X
    isplitr; · ipureintro; rfl
    iexact H
  exact equiv_iff.mp ⟨h1, h2⟩

end Cert.Proof

end
-- ==== Proof.Guards.lean ====
/-
  The conditional parts of the first kernel's body, each for whichever device runs it: what it uses and leaves does not depend on
  whether its condition holds.
-/
module

public import proofs.«01_k».proof.Proof.Steps
public import proofs.«01_k».proof.Proof.Owned

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-- Device `c` owes `O`, having waited on anything. -/
def owesAny (c : Dev nD) (O : CellTallies nD τ sig Unit) : sProp 𝕄 := iprop(∃ W, owes (c : Thread nD τ) O W)

omit [FloatOps F] in
theorem owesAny_intro (c : Dev nD) (O : CellTallies nD τ sig Unit) (W : Waits sig Unit) :
    (owes (c : Thread nD τ) O W : sProp 𝕄) ⊢ owesAny c O := by
  unfold owesAny
  iintro H
  iexists W
  iexact H

/-- A conditional part followed by `k`: if it takes `S` to `S'` when its condition holds, and `S` is `S'` when it does not. -/
theorem wp_if {c : Dev nD} {α : Type} {p : Prop} [Decidable p] (S S' : sProp 𝕄)
    {A : p → Prog (TpuEff nD τ sig (Elt F) Λ₀ .tc) α} {k : Prog (TpuEff nD τ sig (Elt F) Λ₀ .tc) α} {Q : α → sProp 𝕄}
    (hA : ∀ h : p, iprop(S ∗ (S' -∗ wp frame (wpE (defs₀ (F := F)) 𝒱₀ (c : Thread nD τ) none) Set.univ k Q))
      ⊢ wp frame (wpE (defs₀ (F := F)) 𝒱₀ (c : Thread nD τ) none) Set.univ (A h) Q)
    (hN : ¬ p → S ⊢ S') :
    S ⊢ iprop((S' -∗ wp frame (wpE (defs₀ (F := F)) 𝒱₀ (c : Thread nD τ) none) Set.univ k Q)
      -∗ wp frame (wpE (defs₀ (F := F)) 𝒱₀ (c : Thread nD τ) none) Set.univ (dite p A (fun _ => k)) Q) := by
  by_cases h : p
  · rw [dif_pos h]
    iintro HS Hk
    iapply (hA h)
    isplitl [HS]; · iexact HS
    iexact Hk
  · rw [dif_neg h]
    iintro HS Hk
    iapply Hk
    iapply (hN h)
    iexact HS

/-! ## The units on the barriers -/

/-- The unit for `d`, given by every other device. -/
theorem guard_sig (c d : Dev nD) {p : Prop} [Decidable p] (hp : p ↔ c ≠ d) {n : p → Dev nD} (hn : ∀ h, n h = d)
    {α : Type} {Q : α → sProp 𝕄} {k : Prog (TpuEff nD τ sig (Elt F) Λ₀ .tc) α} (R : CellTallies nD τ sig Unit) :
    iprop(records m K ∗ owesAny c (R + sg c d) ∗ dutyTok ER (barCell d) 0 c ∗ barPay d c)
      ⊢ iprop((owesAny c R -∗ wp frame (wpE (defs₀ (F := F)) 𝒱₀ (c : Thread nD τ) none) Set.univ k Q)
          -∗ wp frame (wpE (defs₀ (F := F)) 𝒱₀ (c : Thread nD τ) none) Set.univ
              (dite p (fun h => .op (.semSignal (Dev.tc (n h) : Thread nD τ) barS 1) (fun _ => k)) (fun _ => k)) Q) := by
  by_cases h : p
  · rw [dif_pos h]
    unfold owesAny
    iintro ⟨#HR, ⟨%W, HO⟩, Ht, Hp⟩ Hk
    iapply (wp_sig m K c d (n h) (hn h) (hp.mp h) R W) $$ [HO Ht Hp]
    · isplitr; · iexact HR
      isplitl [HO]; · iexact HO
      isplitl [Ht]; · iexact Ht
      iexact Hp
    iintro HO
    iapply Hk
    iexists W
    iexact HO
  · rw [dif_neg h]
    have hcd : c = d := by by_contra hc; exact h (hp.mpr hc)
    rw [show sg c d = 0 from if_pos hcd, add_zero]
    iintro ⟨-, HO, -, -⟩ Hk
    iapply Hk
    iexact HO

/-! ## Ones in the slots that nobody fills -/

/-- Ones in slot `j`, stored by the devices up to `j`. -/
theorem guard_ones (c j : Dev nD) {p : Prop} [Decidable p] (hp : p ↔ c ≤ j) {r : Rect S3x1x1024} (hr : r = slotR j)
    {w : r.shape.Idx → Elt F .f32} (hw : HEq w (k0_pay5 (F := F)))
    {hl : rcvM.view.LoadsAt r.toLoadRect} {hx : (rcvM.access r).Stores Finset.univ}
    {hm : Finset.univ = Finset.univ ∨ ∀ a, r.stride a = 1}
    {α : Type} {Q : α → sProp 𝕄} {k : Prog (TpuEff nD τ sig (Elt F) Λ₀ .tc) α} :
    given (c ≤ j) (slotAny (F := F) c j)
      ⊢ iprop((given (c ≤ j) (slotAt c j onesRow) -∗ wp frame (wpE (defs₀ (F := F)) 𝒱₀ (c : Thread nD τ) none) Set.univ k Q)
          -∗ wp frame (wpE (defs₀ (F := F)) 𝒱₀ (c : Thread nD τ) none) Set.univ
              (dite p (fun _ => .op (.load rcvM r.toLoadRect hl) fun _ => .op (.store rcvM r w Finset.univ hx hm) (fun _ => k)) (fun _ => k)) Q) := by
  subst hr
  obtain rfl := eq_of_heq hw
  by_cases h : p
  · rw [dif_pos h, given_pos (hp.mp h), given_pos (hp.mp h)]
    unfold slotAny slotAt slotPts
    iintro ⟨%f, H⟩ Hk
    iapply (wp_load_rect 𝒱₀ (c : Thread nD τ) none Set.univ (m := rcvM) (r := slotR j) (S := (slotM j).view.set) (f := f) (slot_set j).subset) $$ H
    iintro H
    iapply (wp_store 𝒱₀ (c : Thread nD τ) none Set.univ (m := rcvM) (r := slotR j) (w := k0_pay5 (F := F)) (Mk := Finset.univ)
      (S := (slotM j).view.set) (f := f) (slot_set j).subset) $$ H
    iintro H
    iapply Hk
    iexists _
    isplitr
    rotate_left
    · iexact H
    · ipureintro
      exact slot_write j f _
  · have hc : ¬ c ≤ j := fun hc => h (hp.mpr hc)
    rw [dif_neg h, given_neg hc, given_neg hc]
    iintro - Hk
    iapply Hk
    iempintro

/-! ## The totals of the earlier devices -/

/-- The wait for device `j`'s total, by every later device: afterwards slot `j` holds what it should on every device. -/
theorem guard_rcv (c j : Dev nD) {p : Prop} [Decidable p] (hp : p ↔ j < c) {src dst : Memref sig .tc .vmem S1x1024 .f32} (hdl : dst = slotM j)
    {q : DmaSem sig} (hq : q = rcvS j) {hsrc : src.view.WordExact} {hdst : dst.view.WordExact}
    {α : Type} {Q : α → sProp 𝕄} {k : Prog (TpuEff nD τ sig (Elt F) Λ₀ .tc) α} :
    iprop(records m K ∗ cred (sd j c) ∗ owesAny c 0 ∗ atPos ER (rcvCell c j) 0 ∅ 0 ∗ given (c ≤ j) (slotAt c j onesRow))
      ⊢ iprop(((owesAny c 0 ∗ atPos ER (rcvCell c j) (if j < c then 1 else 0) ∅ 0 ∗ slotAt c j (slotVal m c j))
            -∗ wp frame (wpE (defs₀ (F := F)) 𝒱₀ (c : Thread nD τ) none) Set.univ k Q)
          -∗ wp frame (wpE (defs₀ (F := F)) 𝒱₀ (c : Thread nD τ) none) Set.univ
              (dite p (fun _ => .op (.waitDma2 q src dst hsrc hdst) (fun _ => k)) (fun _ => k)) Q) := by
  unfold owesAny slotVal
  by_cases h : p
  · have hj := hp.mp h
    rw [dif_pos h, if_pos hj, if_pos hj, show sd j c = tallyAt (rcvCell c j) () N from if_pos hj]
    iintro ⟨#HR, Hc, ⟨%W, HO⟩, Ha, -⟩ Hk
    iapply (wp_wrcv m K c j hj hdl hq W) $$ [Hc HO Ha]
    · isplitr; · iexact HR
      isplitl [Hc]; · iexact Hc
      isplitl [HO]; · iexact HO
      iexact Ha
    iintro ⟨HO, Ha, Hs⟩
    iapply Hk
    isplitl [HO]; · iexists _; iexact HO
    isplitl [Ha]; · iexact Ha
    iexact Hs
  · have hj : ¬ j < c := fun hc => h (hp.mpr hc)
    rw [dif_neg h, if_neg hj, if_neg hj, given_pos (le_of_not_gt hj)]
    iintro ⟨-, -, HO, Ha, Hs⟩ Hk
    iapply Hk
    isplitl [HO]; · iexact HO
    isplitl [Ha]; · iexact Ha
    iexact Hs

/-! ## The copies of the total -/

omit [FloatOps F] in
theorem OR_eq (c : Dev nD) : OR c = ((0 + sd c 3) + sd c 2) + sd c 1 := by
  unfold OR
  rw [show (∑ t : Dev nD, sd c t) = sd c 0 + sd c 1 + sd c 2 + sd c 3 from Fin.sum_univ_four _,
    show sd c 0 = 0 from if_neg (by revert c; decide), zero_add, zero_add, add_comm, add_comm (sd c 1), ← add_assoc]

/-- A share of the total is its two halves. -/
theorem tot_split (c : Dev nD) (q : PosShare TreeShare) :
    (totPts m c q : sProp 𝕄) = iprop(totPts m c q.left ∗ totPts m c q.right) :=
  equiv_iff.mp ⟨(pointsTo_share (PosShare.mem_left_op_right _)).1, (pointsTo_share (PosShare.mem_left_op_right _)).2⟩

/-- What device `c` holds before its copies, -/
def sendPre (c : Dev nD) : sProp 𝕄 :=
  iprop(owesAny c (OR c) ∗ totPts m c fullShare ∗ bigSep Finset.univ (fun t : Dev nD => iprop(sendItem (F := F) c t ∗ atPos ER (sndCell c t) 0 ∅ 0)))
/-- after them, -/
def sendPost (c : Dev nD) : sProp 𝕄 :=
  iprop(owesAny c 0 ∗ totPts m c fullShare ∗ bigSep Finset.univ (fun t : Dev nD => (atPos ER (sndCell c t) (if c < t then 1 else 0) ∅ 0 : sProp 𝕄)))
/-- and once the first `n` devices have had theirs. -/
def sent (n : ℕ) (c : Dev nD) : sProp 𝕄 := if c.val < n then sendPost m c else sendPre m c

theorem sent_zero (c : Dev nD) : sent (F := F) m 0 c = sendPre m c := if_neg (Nat.not_lt_zero _)
theorem sent_skip (n : ℕ) (c : Dev nD) (h : c.val ≠ n) : sent (F := F) m n c ⊢ sent m (n + 1) c := by
  unfold sent
  by_cases hc : c.val < n
  · rw [if_pos hc, if_pos (by omega)]
  · rw [if_neg hc, if_neg (by omega)]

theorem sent_start (n : ℕ) (c : Dev nD) (h : ¬ c.val < n) : sent (F := F) m n c ⊢ sendPre m c := by
  unfold sent; rw [if_neg h]
theorem sent_done (n : ℕ) (c : Dev nD) (h : c.val < n) : sendPost (F := F) m c ⊢ sent m n c := by
  unfold sent; rw [if_pos h]

/-- What device `c` holds before its copies, one by one. -/
theorem sendPre_open (c : Dev nD) : sendPre (F := F) m c
    ⊢ iprop((∃ W, owes (c : Thread nD τ) (((0 + sd c 3) + sd c 2) + sd c 1) W) ∗ totPts m c fullShare
      ∗ (sendItem (F := F) c 0 ∗ atPos ER (sndCell c 0) 0 ∅ 0) ∗ (sendItem (F := F) c 1 ∗ atPos ER (sndCell c 1) 0 ∅ 0)
      ∗ (sendItem (F := F) c 2 ∗ atPos ER (sndCell c 2) 0 ∅ 0) ∗ sendItem (F := F) c 3 ∗ atPos ER (sndCell c 3) 0 ∅ 0) := by
  unfold sendPre owesAny
  rw [bigSep_dev, OR_eq]

/-- What it holds after them, put together. -/
theorem sendPost_close (c : Dev nD) :
    iprop((∃ W, owes (c : Thread nD τ) 0 W) ∗ totPts m c fullShare
      ∗ atPos ER (sndCell c 0) (if c < 0 then 1 else 0) ∅ 0 ∗ atPos ER (sndCell c 1) (if c < 1 then 1 else 0) ∅ 0
      ∗ atPos ER (sndCell c 2) (if c < 2 then 1 else 0) ∅ 0 ∗ atPos ER (sndCell c 3) (if c < 3 then 1 else 0) ∅ 0)
    ⊢ sendPost (F := F) m c := by
  unfold sendPost owesAny
  rw [bigSep_dev]

/-- The last device sends nothing. -/
theorem sent_three (c : Dev nD) : sent (F := F) m 3 c ⊢ sendPost m c := by
  unfold sent
  by_cases hc : c.val < 3
  · rw [if_pos hc]
  · rw [if_neg hc]
    have h : c.val < 4 := c.isLt
    obtain rfl : c = 3 := Fin.ext (by show c.val = 3; omega)
    unfold sendPre sendPost
    rw [bigSep_dev, bigSep_dev, OR_eq, show sd 3 1 = 0 from if_neg (by decide), show sd 3 2 = 0 from if_neg (by decide),
      show sd 3 3 = 0 from if_neg (by decide), add_zero, add_zero, add_zero]
    iintro ⟨HO, Ht, ⟨-, H0⟩, ⟨-, H1⟩, ⟨-, H2⟩, -, H3⟩
    isplitl [HO]; · iexact HO
    isplitl [Ht]; · iexact Ht
    isplitl [H0]; · iexact H0
    isplitl [H1]; · iexact H1
    isplitl [H2]; · iexact H2
    iexact H3

end Cert.Proof

end
-- ==== Proof.Tail.lean ====
/-
  The last grid point of the first kernel: the total is stored, ones go to the slots that nobody fills, the total goes to every later
  device, and the first earlier total is waited for.
-/
module

public import proofs.«01_k».proof.Proof.Guards

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-- A share of the total, as a memref owned at it. -/
theorem totPts_eq (c : Dev nD) (q : PosShare TreeShare) : (totPts m c q : sProp 𝕄) = owns (c : Thread nD τ) totM q (tot m c) := by
  rw [owns_whole]
  unfold totPts
  simp only [Memref.view_whole, View.set_whole]

/-- The word the kernel computes for its own place. -/
abbrev place (c : Dev nD) : BitVec 32 := Scalar.remsi (Scalar.divsi (Dev.word c) 1#32) 4#32

/-- What device `c` holds when it has multiplied all its blocks, -/
def tailPre (c : Dev nD) : sProp 𝕄 :=
  iprop(owns (c : Thread nD τ) accM fullShare (accAt m c 8) ∗ (∃ X, owns (c : Thread nD τ) totM fullShare X)
    ∗ given (c ≤ 0) (slotAny (F := F) c 0) ∗ given (c ≤ 1) (slotAny (F := F) c 1) ∗ given (c ≤ 2) (slotAny (F := F) c 2)
    ∗ owesAny c (OR c) ∗ bigSep Finset.univ (fun t : Dev nD => iprop(sendItem (F := F) c t ∗ atPos ER (sndCell c t) 0 ∅ 0))
    ∗ cred (sd 0 c) ∗ atPos ER (rcvCell c 0) 0 ∅ 0)

/-- and after its copies and the first wait. -/
def tailPost (c : Dev nD) : sProp 𝕄 :=
  iprop(owns (c : Thread nD τ) accM fullShare (accAt m c 8) ∗ totPts m c fullShare
    ∗ slotAt c 0 (slotVal m c 0) ∗ given (c ≤ 1) (slotAt (F := F) c 1 onesRow) ∗ given (c ≤ 2) (slotAt (F := F) c 2 onesRow)
    ∗ owesAny c 0 ∗ bigSep Finset.univ (fun t : Dev nD => (atPos ER (sndCell c t) (if c < t then 1 else 0) ∅ 0 : sProp 𝕄))
    ∗ atPos ER (rcvCell c 0) (if 0 < c then 1 else 0) ∅ 0)

theorem cond10_iff (c : Dev nD) : k0_cond10 c = 1#1 ↔ c = 0 := by revert c; decide
theorem cond11_iff (c : Dev nD) : k0_cond11 c = 1#1 ↔ c = 1 := by revert c; decide
theorem cond12_iff (c : Dev nD) : k0_cond12 c = 1#1 ↔ c = 2 := by revert c; decide

theorem tail_spec (c : Dev nD) (i : grid0.Coords) (arg1 : Memref sig .tc .vmem S1024x1024 .f32) (harg1 : arg1.IsWhole)
    (arg2 : Memref sig .tc .vmem S1x1024 .f32) (harg2 : arg2.IsWhole) (harg3 : accM.IsWhole) (harg4 : totM.IsWhole) (harg5 : rcvM.IsWhole)
    (h6 : k0_cond6 i = 1#1) :
    iprop(records m K ∗ tailPre m c)
      ⊢ wp frame (wpE (defs₀ (F := F)) 𝒱₀ (c : Thread nD τ) none) Set.univ
          (k0_part2 i arg1 harg1 arg2 harg2 accM harg3 totM harg4 rcvM harg5 cc0_scratch3 cc0_scratch4 c (place c) h6)
          (fun _ => tailPost m c) := by
  simp only [k0_part2_eq_skeleton]; unfold k0_part2_skel
  simp only [k0_part1_eq_skeleton]; unfold k0_part1_skel
  simp only [Prog.lift, Prog.bind_op, Prog.bind_ret, Prog.pure_eq_ret, Prog.bind_assoc]
  unfold tailPre
  iintro ⟨#HR, Hacc, ⟨%X, Htot⟩, Hs0, Hs1, Hs2, HO, Hsend, Hc0, Ha0⟩
  iapply (wp_ldown c accM zeros2 fullShare (accAt m c 8)) $$ Hacc
  iintro Hacc
  iapply (wp_ldown c totM zeros2 fullShare X) $$ Htot
  iintro Htot
  iapply (wp_stown c totM zeros2 X (k0_pay4 (accAt m c 8))) $$ Htot
  iintro Htot
  iapply (guard_ones c 0 (by revert c; decide) rfl HEq.rfl) $$ Hs0
  iintro Hs0
  iapply (guard_ones c 1 (by revert c; decide) rfl HEq.rfl) $$ Hs1
  iintro Hs1
  iapply (guard_ones c 2 (by revert c; decide) rfl HEq.rfl) $$ Hs2
  iintro Hs2
  -- the copies of device 0, of device 1, of device 2
  iapply (wp_if (c := c) iprop(records m K ∗ sent m 0 c) (sent m 1 c) ?_ ?_) $$ [HO Htot Hsend]
  · intro h
    obtain rfl := (cond10_iff c).mp h
    iintro ⟨⟨#HR, Hs⟩, Hk⟩
    ihave Hs := ((sent_start m 0 0 (by decide)).trans (sendPre_open m 0)) $$ Hs
    icases Hs with ⟨⟨%W, HO⟩, Ht, ⟨-, A0⟩, ⟨I1, A1⟩, ⟨I2, A2⟩, ⟨I3, A3⟩⟩
    ihave Ht := (Entails.of_eq (tot_split m 0 fullShare)) $$ Ht
    icases Ht with ⟨T1, Ht⟩
    ihave Ht := (Entails.of_eq (tot_split m 0 fullShare.right)) $$ Ht
    icases Ht with ⟨T2, Ht⟩
    iapply (wp_snd m K 0 1 _ (by decide) (Fin.ext k0_dev5_eq) rfl rfl rfl ((0 + sd 0 3) + sd 0 2) W) $$ [HO T1 I1]
    · isplitr; · iexact HR
      isplitl [HO]; · iexact HO
      isplitl [T1]; · iexact T1
      iexact I1
    iintro ⟨C1, HO⟩
    iapply (wp_snd m K 0 2 _ (by decide) (Fin.ext k0_dev6_eq) rfl rfl rfl (0 + sd 0 3) W) $$ [HO T2 I2]
    · isplitr; · iexact HR
      isplitl [HO]; · iexact HO
      isplitl [T2]; · iexact T2
      iexact I2
    iintro ⟨C2, HO⟩
    iapply (wp_snd m K 0 3 _ (by decide) (Fin.ext k0_dev7_eq) rfl rfl rfl 0 W) $$ [HO Ht I3]
    · isplitr; · iexact HR
      isplitl [HO]; · iexact HO
      isplitl [Ht]; · iexact Ht
      iexact I3
    iintro ⟨C3, HO⟩
    iapply (wp_wsnd m K 0 1 (by decide) rfl) $$ [C1 HO A1]
    · isplitr; · iexact HR
      isplitl [C1]; · iexact C1
      isplitl [HO]; · iexact HO
      iexact A1
    iintro ⟨HO, A1, T1⟩
    iapply (wp_wsnd m K 0 2 (by decide) rfl) $$ [C2 HO A2]
    · isplitr; · iexact HR
      isplitl [C2]; · iexact C2
      isplitl [HO]; · iexact HO
      iexact A2
    iintro ⟨HO, A2, T2⟩
    iapply (wp_wsnd m K 0 3 (by decide) rfl) $$ [C3 HO A3]
    · isplitr; · iexact HR
      isplitl [C3]; · iexact C3
      isplitl [HO]; · iexact HO
      iexact A3
    iintro ⟨HO, A3, T3⟩
    ihave T3 := (Entails.of_eq (tot_split m 0 fullShare.right).symm) $$ [T2 T3]
    · isplitl [T2]; · iexact T2
      iexact T3
    ihave T3 := (Entails.of_eq (tot_split m 0 fullShare).symm) $$ [T1 T3]
    · isplitl [T1]; · iexact T1
      iexact T3
    iapply Hk
    iapply (sent_done m 1 0 (by decide))
    iapply (sendPost_close m 0)
    isplitl [HO]; · iexists _; iexact HO
    isplitl [T3]; · iexact T3
    isplitl [A0]; · iexact A0
    isplitl [A1]; · iexact A1
    isplitl [A2]; · iexact A2
    iexact A3
  · intro h
    iintro ⟨-, H⟩
    iapply (sent_skip m 0 c (fun e => h ((cond10_iff c).mpr (Fin.ext e))))
    iexact H
  · isplitr; · iexact HR
    rw [sent_zero]
    unfold sendPre
    rw [totPts_eq]
    isplitl [HO]; · iexact HO
    isplitl [Htot]; · iexact Htot
    iexact Hsend
  iintro Hsend
  iapply (wp_if (c := c) iprop(records m K ∗ sent m 1 c) (sent m 2 c) ?_ ?_) $$ [Hsend]
  · intro h
    obtain rfl := (cond11_iff c).mp h
    iintro ⟨⟨#HR, Hs⟩, Hk⟩
    ihave Hs := ((sent_start m 1 1 (by decide)).trans (sendPre_open m 1)) $$ Hs
    icases Hs with ⟨⟨%W, HO⟩, Ht, ⟨-, A0⟩, ⟨-, A1⟩, ⟨I2, A2⟩, ⟨I3, A3⟩⟩
    ihave HO := (Entails.of_eq (congrArg (fun O => (owes ((1 : Dev nD) : Thread nD τ) O W : sProp 𝕄)) (show _ = 0 + sd 1 3 + sd 1 2 by
      rw [show sd 1 1 = 0 from if_neg (by decide), add_zero]))) $$ HO
    ihave Ht := (Entails.of_eq (tot_split m 1 fullShare)) $$ Ht
    icases Ht with ⟨T2, Ht⟩
    iapply (wp_snd m K 1 2 _ (by decide) (Fin.ext k0_dev8_eq) rfl rfl rfl (0 + sd 1 3) W) $$ [HO T2 I2]
    · isplitr; · iexact HR
      isplitl [HO]; · iexact HO
      isplitl [T2]; · iexact T2
      iexact I2
    iintro ⟨C2, HO⟩
    iapply (wp_snd m K 1 3 _ (by decide) (Fin.ext k0_dev9_eq) rfl rfl rfl 0 W) $$ [HO Ht I3]
    · isplitr; · iexact HR
      isplitl [HO]; · iexact HO
      isplitl [Ht]; · iexact Ht
      iexact I3
    iintro ⟨C3, HO⟩
    iapply (wp_wsnd m K 1 2 (by decide) rfl) $$ [C2 HO A2]
    · isplitr; · iexact HR
      isplitl [C2]; · iexact C2
      isplitl [HO]; · iexact HO
      iexact A2
    iintro ⟨HO, A2, T2⟩
    iapply (wp_wsnd m K 1 3 (by decide) rfl) $$ [C3 HO A3]
    · isplitr; · iexact HR
      isplitl [C3]; · iexact C3
      isplitl [HO]; · iexact HO
      iexact A3
    iintro ⟨HO, A3, T3⟩
    ihave T3 := (Entails.of_eq (tot_split m 1 fullShare).symm) $$ [T2 T3]
    · isplitl [T2]; · iexact T2
      iexact T3
    iapply Hk
    iapply (sent_done m 2 1 (by decide))
    iapply (sendPost_close m 1)
    isplitl [HO]; · iexists _; iexact HO
    isplitl [T3]; · iexact T3
    isplitl [A0]; · iexact A0
    isplitl [A1]; · iexact A1
    isplitl [A2]; · iexact A2
    iexact A3
  · intro h
    iintro ⟨-, H⟩
    iapply (sent_skip m 1 c (fun e => h ((cond11_iff c).mpr (Fin.ext e))))
    iexact H
  · isplitr; · iexact HR
    iexact Hsend
  iintro Hsend
  iapply (wp_if (c := c) iprop(records m K ∗ sent m 2 c) (sent m 3 c) ?_ ?_) $$ [Hsend]
  · intro h
    obtain rfl := (cond12_iff c).mp h
    iintro ⟨⟨#HR, Hs⟩, Hk⟩
    ihave Hs := ((sent_start m 2 2 (by decide)).trans (sendPre_open m 2)) $$ Hs
    icases Hs with ⟨⟨%W, HO⟩, Ht, ⟨-, A0⟩, ⟨-, A1⟩, ⟨-, A2⟩, ⟨I3, A3⟩⟩
    ihave HO := (Entails.of_eq (congrArg (fun O => (owes ((2 : Dev nD) : Thread nD τ) O W : sProp 𝕄)) (show _ = 0 + sd 2 3 by
      rw [show sd 2 2 = 0 from if_neg (by decide), show sd 2 1 = 0 from if_neg (by decide), add_zero, add_zero]))) $$ HO
    iapply (wp_snd m K 2 3 _ (by decide) (Fin.ext k0_dev10_eq) rfl rfl rfl 0 W) $$ [HO Ht I3]
    · isplitr; · iexact HR
      isplitl [HO]; · iexact HO
      isplitl [Ht]; · iexact Ht
      iexact I3
    iintro ⟨C3, HO⟩
    iapply (wp_wsnd m K 2 3 (by decide) rfl) $$ [C3 HO A3]
    · isplitr; · iexact HR
      isplitl [C3]; · iexact C3
      isplitl [HO]; · iexact HO
      iexact A3
    iintro ⟨HO, A3, T3⟩
    iapply Hk
    iapply (sent_done m 3 2 (by decide))
    iapply (sendPost_close m 2)
    isplitl [HO]; · iexists _; iexact HO
    isplitl [T3]; · iexact T3
    isplitl [A0]; · iexact A0
    isplitl [A1]; · iexact A1
    isplitl [A2]; · iexact A2
    iexact A3
  · intro h
    iintro ⟨-, H⟩
    iapply (sent_skip m 2 c (fun e => h ((cond12_iff c).mpr (Fin.ext e))))
    iexact H
  · isplitr; · iexact HR
    iexact Hsend
  iintro Hsend
  ihave Hsend := (sent_three m c) $$ Hsend
  unfold sendPost
  icases Hsend with ⟨HO, Htot, Hsend⟩
  iapply (guard_rcv m K c 0 (by revert c; decide) rfl rfl) $$ [Hc0 HO Ha0 Hs0]
  · isplitr; · iexact HR
    isplitl [Hc0]; · iexact Hc0
    isplitl [HO]; · iexact HO
    isplitl [Ha0]; · iexact Ha0
    iexact Hs0
  iintro ⟨HO, Ha0, Hs0⟩
  rw [wp_ret]
  imodintro
  unfold tailPost
  isplitl [Hacc]; · iexact Hacc
  isplitl [Htot]; · iexact Htot
  isplitl [Hs0]; · iexact Hs0
  isplitl [Hs1]; · iexact Hs1
  isplitl [Hs2]; · iexact Hs2
  isplitl [HO]; · iexact HO
  isplitl [Hsend]; · iexact Hsend
  iexact Ha0

end Cert.Proof

end
-- ==== Proof.Cells.lean ====
/-
  Packing and unpacking around the exchange: the landing buffer as its three slots, what the units on the barriers carry, and how the
  semaphores come back at zero.
-/
module

public import proofs.«01_k».proof.Proof.Tail

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-! ## The landing buffer -/

/-- The slots that are used. -/
def used : Finset (Dev nD) := {0, 1, 2}

theorem slotM_set (j : Dev nD) : (slotM j).view.set = (slotR j).set := (slot_set j).symm.trans (View.set_slice_whole _ _)

theorem mem_slot (j : Dev nD) (h : j < 3) (i : S3x1x1024.Idx) : i ∈ (slotR j).set ↔ (i 0).val = j.val := by
  have hj : j.val < 3 := h
  have h1 : (i 1).val < 1 := (i 1).isLt
  have h2 : (i 2).val < 1024 := (i 2).isLt
  rw [Rect.mem_set_unit, Fin.forall_fin_succ, Fin.forall_fin_succ, Fin.forall_fin_succ]
  show ((min j.val 2 ≤ (i 0).val ∧ (i 0).val < min j.val 2 + 1) ∧ (0 ≤ (i 1).val ∧ (i 1).val < 0 + 1) ∧ (0 ≤ (i 2).val ∧ (i 2).val < 0 + 1024) ∧ _) ↔ _
  constructor
  · rintro ⟨⟨ha, hb⟩, -⟩; omega
  · intro hi; exact ⟨by omega, by omega, by omega, fun a => a.elim0⟩

theorem slots_disjoint : ∀ j ∈ used, ∀ j' ∈ used, j ≠ j' → Disjoint (slotM j).view.set (slotM j').view.set := by
  have lt3 : ∀ j ∈ used, j < 3 := by decide
  intro j hj j' hj' hne
  rw [slotM_set, slotM_set, Finset.disjoint_left]
  intro i hi hi'
  exact hne (Fin.ext (((mem_slot j (lt3 j hj) i).mp hi).symm.trans ((mem_slot j' (lt3 j' hj') i).mp hi')))

theorem slots_cover : (used.biUnion fun j => (slotM j).view.set) = (Finset.univ : Finset S3x1x1024.Idx) := by
  ext i
  simp only [Finset.mem_biUnion, Finset.mem_univ, iff_true]
  have h0 : (i 0).val < 3 := (i 0).isLt
  have hu : ∀ j : Dev nD, j < 3 → j ∈ used := by decide
  refine ⟨(⟨(i 0).val, by show (i 0).val < 4; omega⟩ : Dev nD), hu _ h0, ?_⟩
  rw [slotM_set]; exact (mem_slot _ h0 i).mpr rfl

omit [FloatOps F] in
theorem bigSep_used (Φ : Dev nD → sProp 𝕄) : bigSep used Φ = iprop(Φ 0 ∗ Φ 1 ∗ Φ 2) := by
  unfold used
  rw [bigSep_insert (by decide), bigSep_insert (by decide), bigSep_singleton]
  rfl

omit [FloatOps F] in
/-- A buffer cut into three parts is the three parts, -/
theorem three_split {ℓ : Loc nD τ sig} (P : Dev nD → Finset (Idx ℓ)) (hd : ∀ j ∈ used, ∀ j' ∈ used, j ≠ j' → Disjoint (P j) (P j'))
    (hc : used.biUnion P = Finset.univ) (f : Buf (Elt F) ℓ) :
    (ℓ ↦{fullShare} f : sProp 𝕄) ⊢ iprop((ℓ ↦[P 0]{fullShare} f) ∗ (ℓ ↦[P 1]{fullShare} f) ∗ ℓ ↦[P 2]{fullShare} f) := by
  rw [← hc]
  exact Entails.of_eq ((pointsTo_biUnion used P hd).trans (bigSep_used _))

omit [FloatOps F] in
/-- and the three parts, at whatever contents, are the buffer at some contents. -/
theorem three_join {ℓ : Loc nD τ sig} (P : Dev nD → Finset (Idx ℓ)) (hd : ∀ j ∈ used, ∀ j' ∈ used, j ≠ j' → Disjoint (P j) (P j'))
    (hc : used.biUnion P = Finset.univ) (f : Dev nD → Buf (Elt F) ℓ) :
    iprop((ℓ ↦[P 0]{fullShare} f 0) ∗ (ℓ ↦[P 1]{fullShare} f 1) ∗ ℓ ↦[P 2]{fullShare} f 2) ⊢ (iprop(∃ g, ℓ ↦{fullShare} g) : sProp 𝕄) := by
  refine (Entails.of_eq (bigSep_used (fun j => ℓ ↦[P j]{fullShare} f j)).symm).trans ((pointsTo_biUnion_join used P f (f 0) hd).trans ?_)
  rw [hc]
  iintro ⟨%g, -, H⟩
  iexists g; iexact H

/-- The whole landing buffer, at some contents. -/
def rcvAny (c : Dev nD) : sProp 𝕄 := iprop(∃ f, ((c : Thread nD τ).loc cc0_scratch2) ↦{fullShare} f)

omit [FloatOps F] in
/-- It is its three slots, -/
theorem rcv_split (c : Dev nD) : rcvAny (F := F) c ⊢ iprop(slotAny c 0 ∗ slotAny c 1 ∗ slotAny c 2) := by
  unfold rcvAny slotAny slotPts
  iintro ⟨%f, H⟩
  ihave H := (three_split (ℓ := (c : Thread nD τ).loc cc0_scratch2) (fun j => (slotM j).view.set) slots_disjoint slots_cover f) $$ H
  icases H with ⟨H0, H1, H2⟩
  isplitl [H0]; · iexists f; iexact H0
  isplitl [H1]; · iexists f; iexact H1
  iexists f; iexact H2

omit [FloatOps F] in
/-- and back. -/
theorem rcv_join (c : Dev nD) : iprop(slotAny c 0 ∗ slotAny c 1 ∗ slotAny c 2) ⊢ rcvAny (F := F) c := by
  unfold slotAny slotPts rcvAny
  iintro ⟨⟨%f0, H0⟩, ⟨%f1, H1⟩, %f2, H2⟩
  iapply (three_join (ℓ := (c : Thread nD τ).loc cc0_scratch2) (fun j => (slotM j).view.set) slots_disjoint slots_cover ![f0, f1, f2, f2])
  isplitl [H0]; · iexact H0
  isplitl [H1]; · iexact H1
  iexact H2

omit [FloatOps F] in
/-- A slot at a known row is that slot at some contents. -/
theorem slotAt_any (c j : Dev nD) (X : FVec F S1x1024 .f32) : slotAt c j X ⊢ slotAny (F := F) c j := by
  unfold slotAt slotAny
  iintro ⟨%f, -, H⟩
  iexists f; iexact H

/-! ## What the units carry -/

omit [FloatOps F] in
/-- Slot `j` goes with the unit for `j` when `j` is an earlier device, and stays otherwise. -/
theorem slot_pay (c j : Dev nD) : iprop(slotAny c j ∗ reached ER (rcvCell c j) 0) ⊢ iprop(barPay j c ∗ given (c ≤ j) (slotAny (F := F) c j)) := by
  unfold barPay
  by_cases h : j < c
  · rw [if_pos h, given_neg (not_le_of_gt h)]
    iintro H
    isplitl [H]; · iexact H
    iempintro
  · rw [if_neg h, given_pos (le_of_not_gt h)]
    iintro ⟨H, -⟩
    isplitr; · iempintro
    iexact H

omit [FloatOps F] in
/-- The unit for the last device carries nothing. -/
theorem pay_three (c : Dev nD) : (iprop(emp) : sProp 𝕄) ⊢ barPay (F := F) 3 c := by
  unfold barPay; rw [if_neg (by revert c; decide)]

omit [FloatOps F] in
theorem O₀_eq (c : Dev nD) : O₀ c = (((OR c + sg c 3) + sg c 2) + sg c 1) + sg c 0 := by
  unfold O₀
  rw [show (∑ t : Dev nD, sg c t) = sg c 0 + sg c 1 + sg c 2 + sg c 3 from Fin.sum_univ_four _]
  abel

omit [FloatOps F] in
theorem bigSep_own (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## The semaphores at zero -/

/-- A send semaphore after its last wait, -/
theorem close_snd (c t : Dev nD) : iprop(records m K ∗ atPos ER (sndCell c t) (if c < t then 1 else 0) ∅ 0)
    ⊢ (|={Set.univ}=> semVal (sndCell c t) 0 : sProp 𝕄) := by
  refine (sep_mono_left (records_inv m K (snd_mem c t))).trans ?_
  refine Rounds.cell_close ER (rd (F := F) m) (Set.mem_univ (K (sndCell c t))) (fun h => h) ?_
  by_cases h : c < t
  · rw [if_pos h]; exact duties_later m _
  · rw [if_neg h]; exact duties_snd_none m c t h

/-- a receive semaphore, -/
theorem close_rcv (c j : Dev nD) (h3 : j < 3) : iprop(records m K ∗ atPos ER (rcvCell c j) (if j < c then 1 else 0) ∅ 0)
    ⊢ (|={Set.univ}=> semVal (rcvCell c j) 0 : sProp 𝕄) := by
  refine (sep_mono_left (records_inv m K (rcv_mem c j h3))).trans ?_
  refine Rounds.cell_close ER (rd (F := F) m) (Set.mem_univ (K (rcvCell c j))) (fun h => h) ?_
  by_cases h : j < c
  · rw [if_pos h]; exact duties_later m _
  · rw [if_neg h]; exact duties_rcv_none m c j h3 h

/-- and the barrier. -/
theorem close_bar (c : Dev nD) : iprop(records m K ∗ atPos ER (barCell c) 1 ∅ 0) ⊢ (|={Set.univ}=> semVal (barCell c) 0 : sProp 𝕄) :=
  (sep_mono_left (records_inv m K (bar_mem c))).trans
    (Rounds.cell_close ER (rd (F := F) m) (Set.mem_univ (K (barCell c))) (fun h => h) (duties_later m _))

/-- All of them. -/
theorem close_all (c : Dev nD) :
    iprop(records m K ∗ bigSep Finset.univ (fun t : Dev nD => (atPos ER (sndCell c t) (if c < t then 1 else 0) ∅ 0 : sProp 𝕄))
        ∗ atPos ER (rcvCell c 0) (if 0 < c then 1 else 0) ∅ 0 ∗ atPos ER (rcvCell c 1) (if 1 < c then 1 else 0) ∅ 0
        ∗ atPos ER (rcvCell c 2) (if 2 < c then 1 else 0) ∅ 0 ∗ atPos ER (barCell c) 1 ∅ 0)
      ⊢ (|={Set.univ}=> (bigSep Finset.univ (fun k : Fin 7 => semVal (ownCell c k) 0) ∗ semVal (barCell c) 0) : sProp 𝕄) := by
  rw [bigSep_dev, bigSep_own]
  iintro ⟨#HR, ⟨A0, A1, A2, A3⟩, A4, A5, A6, A7⟩
  imod (close_snd m K c 0) $$ [A0] with Z0
  · isplitr; · iexact HR
    iexact A0
  imod (close_snd m K c 1) $$ [A1] with Z1
  · isplitr; · iexact HR
    iexact A1
  imod (close_snd m K c 2) $$ [A2] with Z2
  · isplitr; · iexact HR
    iexact A2
  imod (close_snd m K c 3) $$ [A3] with Z3
  · isplitr; · iexact HR
    iexact A3
  imod (close_rcv m K c 0 (by decide)) $$ [A4] with Z4
  · isplitr; · iexact HR
    iexact A4
  imod (close_rcv m K c 1 (by decide)) $$ [A5] with Z5
  · isplitr; · iexact HR
    iexact A5
  imod (close_rcv m K c 2 (by decide)) $$ [A6] with Z6
  · isplitr; · iexact HR
    iexact A6
  imod (close_bar m K c) $$ [A7] with Z7
  · isplitr; · iexact HR
    iexact A7
  imodintro
  isplitr [Z7]
  · isplitl [Z0]; · iexact Z0
    isplitl [Z1]; · iexact Z1
    isplitl [Z2]; · iexact Z2
    isplitl [Z3]; · iexact Z3
    isplitl [Z4]; · iexact Z4
    isplitl [Z5]; · iexact Z5
    iexact Z6
  iexact Z7

end Cert.Proof

end
-- ==== Proof.Body0.lean ====
/-
  The first kernel at one grid point: it meets the other devices before its first block, multiplies one block into its 8 running
  products, and after its last block exchanges totals and stores the product of the earlier devices' totals.
-/
module

public import proofs.«01_k».proof.Proof.Cells

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-! ## What a device holds -/

/-- A whole scoped buffer at some contents. -/
abbrev someBuf (c : Dev nD) (b : Ref sig .tc) : sProp 𝕄 := iprop(∃ f : Buf (Elt F) ((c : Thread nD τ).loc b), ((c : Thread nD τ).loc b) ↦{fullShare} f)

/-- The scoped buffers of the second kernel, which the first does not touch, and the random generator's register. -/
def idleBufs (c : Dev nD) : sProp 𝕄 :=
  iprop((someBuf (F := F) c cc1_stg0_0 ∗ someBuf (F := F) c cc1_stg0_1 ∗ someBuf (F := F) c cc1_stg1_0 ∗ someBuf (F := F) c cc1_stg2_0
    ∗ someBuf (F := F) c cc1_stg2_1 ∗ someBuf (F := F) c cc1_scratch0) ∗ ∃ r, prngReg c r)

/-- The tokens of the landings that device `c` causes. -/
def toks (c : Dev nD) : sProp 𝕄 :=
  iprop(bigSep Finset.univ (fun t : Dev nD => (dutyTok ER (barCell t) 0 c : sProp 𝕄))
    ∗ bigSep Finset.univ (fun t : Dev nD => (dutyTok ER (sndCell c t) 0 0 : sProp 𝕄))
    ∗ bigSep Finset.univ (fun t : Dev nD => (dutyTok ER (rcvCell t c) 0 0 : sProp 𝕄)))

/-- What device `c` knows and holds of the exchange before it starts. -/
def atStart (c : Dev nD) : sProp 𝕄 :=
  iprop(∃ K, records (F := F) m K ∗ levAts L lv ∗ bigSep Finset.univ (fun k : Fin 7 => (reached ER (ownCell c k) 0 : sProp 𝕄))
    ∗ bigSep Finset.univ (fun k : Fin 7 => (atPos ER (ownCell c k) 0 ∅ 0 : sProp 𝕄)) ∗ atPos ER (barCell c) 0 ∅ 0 ∗ toks c
    ∗ cred (tallyAt (barCell c) () 3) ∗ bigSep Finset.univ (fun j : Dev nD => (cred (sd j c) : sProp 𝕄)))

/-- What it holds of the exchange once it has met the others. -/
def atMet (c : Dev nD) : sProp 𝕄 :=
  iprop(∃ K, records (F := F) m K
    ∗ given (c ≤ 0) (slotAny (F := F) c 0) ∗ given (c ≤ 1) (slotAny (F := F) c 1) ∗ given (c ≤ 2) (slotAny (F := F) c 2)
    ∗ bigSep Finset.univ (fun t : Dev nD => iprop(sendItem (F := F) c t ∗ atPos ER (sndCell c t) 0 ∅ 0))
    ∗ (cred (sd 0 c) ∗ cred (sd 1 c) ∗ cred (sd 2 c))
    ∗ (atPos ER (rcvCell c 0) 0 ∅ 0 ∗ atPos ER (rcvCell c 1) 0 ∅ 0 ∗ atPos ER (rcvCell c 2) 0 ∅ 0)
    ∗ atPos ER (barCell c) 1 ∅ 0)

/-- The kernel's semaphores at zero. -/
def semsZero (c : Dev nD) : sProp 𝕄 := iprop(bigSep Finset.univ (fun k : Fin 7 => semVal (ownCell c k) 0) ∗ semVal (barCell c) 0)

/-- The state with the first `n` blocks multiplied and the others met. -/
def met (c : Dev nD) (n : ℕ) : sProp 𝕄 :=
  iprop(owns (c : Thread nD τ) accM fullShare (accAt m c n) ∗ someBuf (F := F) c cc0_scratch1 ∗ atMet m c ∗ idleBufs c)

/-- The state between grid points: before the first block, between blocks, after the last. -/
def state (c : Dev nD) (n : ℕ) : sProp 𝕄 :=
  if n = 0 then iprop(someBuf (F := F) c cc0_scratch0 ∗ someBuf (F := F) c cc0_scratch1 ∗ rcvAny c ∗ atStart m c ∗ idleBufs c)
  else if n < 8 then met m c n
  else iprop(someBuf (F := F) c cc0_scratch0 ∗ someBuf (F := F) c cc0_scratch1 ∗ rcvAny c ∗ semsZero c ∗ idleBufs c)

/-- What is owed between grid points. -/
def dues (c : Dev nD) (n : ℕ) : CellTallies nD τ sig Unit := if n = 0 then O₀ c else if n < 8 then OR c else 0

/-! ## Before the first block -/

omit [FloatOps F] in
/-- The landing buffer, cut up: what goes with the four units, and what stays. -/
theorem pays (c : Dev nD) :
    iprop(rcvAny c ∗ bigSep Finset.univ (fun k : Fin 7 => (reached ER (ownCell c k) 0 : sProp 𝕄)))
      ⊢ iprop((barPay (F := F) 0 c ∗ barPay 1 c ∗ barPay 2 c ∗ barPay 3 c)
        ∗ given (c ≤ 0) (slotAny (F := F) c 0) ∗ given (c ≤ 1) (slotAny (F := F) c 1) ∗ given (c ≤ 2) (slotAny (F := F) c 2)) := by
  rw [bigSep_own]
  iintro ⟨H, -, -, -, -, R0, R1, R2⟩
  ihave H := (rcv_split c) $$ H
  icases H with ⟨H0, H1, H2⟩
  ihave H0 := (slot_pay c 0) $$ [H0 R0]
  · isplitl [H0]; · iexact H0
    iexact R0
  ihave H1 := (slot_pay c 1) $$ [H1 R1]
  · isplitl [H1]; · iexact H1
    iexact R1
  ihave H2 := (slot_pay c 2) $$ [H2 R2]
  · isplitl [H2]; · iexact H2
    iexact R2
  icases H0 with ⟨P0, H0⟩
  icases H1 with ⟨P1, H1⟩
  icases H2 with ⟨P2, H2⟩
  isplitl [P0 P1 P2]
  · isplitl [P0]; · iexact P0
    isplitl [P1]; · iexact P1
    isplitl [P2]; · iexact P2
    iapply (pay_three c)
    iempintro
  isplitl [H0]; · iexact H0
  isplitl [H1]; · iexact H1
  iexact H2

omit [FloatOps F] in
/-- What the four units bring, with the tokens of the copies and the send semaphores, is what the copies need. -/
theorem items (c : Dev nD) :
    iprop(bigSep Finset.univ (fun k : Fin 7 => (reached ER (ownCell c k) 0 : sProp 𝕄))
        ∗ bigSep Finset.univ (fun k : Fin 7 => (atPos ER (ownCell c k) 0 ∅ 0 : sProp 𝕄))
        ∗ bigSep Finset.univ (fun t : Dev nD => (dutyTok ER (sndCell c t) 0 0 : sProp 𝕄))
        ∗ bigSep Finset.univ (fun t : Dev nD => (dutyTok ER (rcvCell t c) 0 0 : sProp 𝕄))
        ∗ bigSep Finset.univ (fun t => barPay (F := F) c t))
      ⊢ iprop(bigSep Finset.univ (fun t : Dev nD => iprop(sendItem (F := F) c t ∗ atPos ER (sndCell c t) 0 ∅ 0))
        ∗ atPos ER (rcvCell c 0) 0 ∅ 0 ∗ atPos ER (rcvCell c 1) 0 ∅ 0 ∗ atPos ER (rcvCell c 2) 0 ∅ 0) := by
  simp only [bigSep_own, bigSep_dev]
  unfold sendItem
  iintro ⟨⟨R0, R1, R2, R3, -⟩, ⟨A0, A1, A2, A3, A4, A5, A6⟩, ⟨D0, D1, D2, D3⟩, ⟨E0, E1, E2, E3⟩, P0, P1, P2, P3⟩
  isplitr [A4 A5 A6]
  · isplitl [R0 A0 D0 E0 P0]
    · isplitr [A0]; · isplitl [P0]; · iexact P0
                      isplitl [D0]; · iexact D0
                      isplitl [E0]; · iexact E0
                      iexact R0
      iexact A0
    isplitl [R1 A1 D1 E1 P1]
    · isplitr [A1]; · isplitl [P1]; · iexact P1
                      isplitl [D1]; · iexact D1
                      isplitl [E1]; · iexact E1
                      iexact R1
      iexact A1
    isplitl [R2 A2 D2 E2 P2]
    · isplitr [A2]; · isplitl [P2]; · iexact P2
                      isplitl [D2]; · iexact D2
                      isplitl [E2]; · iexact E2
                      iexact R2
      iexact A2
    isplitr [A3]; · isplitl [P3]; · iexact P3
                    isplitl [D3]; · iexact D3
                    isplitl [E3]; · iexact E3
                    iexact R3
    iexact A3
  isplitl [A4]; · iexact A4
  isplitl [A5]; · iexact A5
  iexact A6

theorem cond1_iff (t : Fin grid0.N) : k0_cond1 (grid0.coords t) = 1#1 ↔ t.val = 0 := by revert t; decide
theorem cond2_iff (c : Dev nD) : k0_cond2 c = 1#1 ↔ c ≠ 0 := by revert c; decide
theorem cond3_iff (c : Dev nD) : k0_cond3 c = 1#1 ↔ c ≠ 1 := by revert c; decide
theorem cond4_iff (c : Dev nD) : k0_cond4 c = 1#1 ↔ c ≠ 2 := by revert c; decide
theorem cond5_iff (c : Dev nD) : k0_cond5 c = 1#1 ↔ c ≠ 3 := by revert c; decide
theorem gt1_iff (c : Dev nD) : Scalar.cmpi .ne (Scalar.extui (Scalar.cmpi .sgt (place c) 1#32)) 0#32 = 1#1 ↔ 1 < c := by revert c; decide
theorem gt2_iff (c : Dev nD) : Scalar.cmpi .ne (Scalar.extui (Scalar.cmpi .sgt (place c) 2#32)) 0#32 = 1#1 ↔ 2 < c := by revert c; decide
theorem cond6_iff (t : Fin grid0.N) : k0_cond6 (grid0.coords t) = 1#1 ↔ t.val = 7 := by revert t; decide

/-! ## One grid point -/

/-- A program run in two parts. -/
theorem wp_seq {c : Dev nD} {α : Type} {S S' : sProp 𝕄} {P : Prog (TpuEff nD τ sig (Elt F) Λ₀ .tc) PUnit}
    {k : PUnit → Prog (TpuEff nD τ sig (Elt F) Λ₀ .tc) α} {Q : α → sProp 𝕄}
    (h : S ⊢ wp frame (wpE (defs₀ (F := F)) 𝒱₀ (c : Thread nD τ) none) Set.univ P (fun _ => S')) :
    S ⊢ iprop((S' -∗ wp frame (wpE (defs₀ (F := F)) 𝒱₀ (c : Thread nD τ) none) Set.univ (k ⟨⟩) Q)
      -∗ wp frame (wpE (defs₀ (F := F)) 𝒱₀ (c : Thread nD τ) none) Set.univ (P >>= k) Q) := by
  refine BI.wand_intro (wp_stage (BI.Entails.refl _) h ?_)
  iintro ⟨HS, Hk⟩
  iapply Hk
  iexact HS

theorem state_zero (c : Dev nD) : state (F := F) m c 0
    = iprop(someBuf (F := F) c cc0_scratch0 ∗ someBuf (F := F) c cc0_scratch1 ∗ rcvAny c ∗ atStart m c ∗ idleBufs c) := if_pos rfl
theorem state_mid (c : Dev nD) (n : ℕ) (h0 : n ≠ 0) (h8 : n < 8) : state (F := F) m c n = met m c n := (if_neg h0).trans (if_pos h8)
theorem state_last (c : Dev nD) : state (F := F) m c 8
    = iprop(someBuf (F := F) c cc0_scratch0 ∗ someBuf (F := F) c cc0_scratch1 ∗ rcvAny c ∗ semsZero c ∗ idleBufs c) :=
  (if_neg (by decide)).trans (if_neg (by decide))
omit [FloatOps F] in
theorem dues_mid (c : Dev nD) (n : ℕ) (h0 : n ≠ 0) (h8 : n < 8) : dues c n = OR c := (if_neg h0).trans (if_pos h8)

theorem accAt_succ (c : Dev nD) (t : Fin grid0.N) : accAt m c (t.val + 1) = k0_pay2 (xblk m c t) (accAt m c t.val) := dif_pos t.isLt

/-- What the second window holds after point `t`: at the last point the product of the earlier totals, before that what it held. -/
def outAt (c : Dev nD) (n : ℕ) (Y : FVec F S1x1024 .f32) : FVec F S1x1024 .f32 := if n = 7 then carry m c else Y

set_option maxHeartbeats 1000000 in
theorem body_run (c : Dev nD) (t : Fin grid0.N) (arg1 : Memref sig .tc .vmem S1024x1024 .f32) (harg1 : arg1.IsWhole)
    (arg2 : Memref sig .tc .vmem S1x1024 .f32) (harg2 : arg2.IsWhole) (harg3 : accM.IsWhole) (harg4 : totM.IsWhole) (harg5 : rcvM.IsWhole)
    (Y : FVec F S1x1024 .f32) :
    iprop(state m c t.val ∗ owesAny c (dues c t.val) ∗ owns (c : Thread nD τ) arg1 fullShare (xblk m c t) ∗ owns (c : Thread nD τ) arg2 fullShare Y)
      ⊢ wp frame (wpE (defs₀ (F := F)) 𝒱₀ (c : Thread nD τ) none) Set.univ
          (cc0_body (grid0.coords t) arg1 harg1 arg2 harg2 accM harg3 totM harg4 rcvM harg5 cc0_scratch3 cc0_scratch4)
          (fun _ => iprop(state m c (t.val + 1) ∗ owesAny c (dues c (t.val + 1)) ∗ owns (c : Thread nD τ) arg1 fullShare (xblk m c t)
            ∗ owns (c : Thread nD τ) arg2 fullShare (outAt m c t.val Y))) := by
  have ht8 : t.val < 8 := by have h := t.isLt; have hN : grid0.N = 8 := N_0; omega
  simp only [cc0_body_eq_skeleton]; unfold cc0_body_skel
  simp only [semSignalWord, semWaitWord, Prog.lift, Prog.bind_op, Prog.bind_ret, Prog.pure_eq_ret, Prog.bind_assoc, wp_deviceId]
  iintro ⟨HS, HO, Hx, Hy⟩
  iapply (wp_if (c := c) iprop(state m c t.val ∗ owesAny c (dues c t.val)) iprop(met m c t.val ∗ owesAny c (OR c)) ?_ ?_) $$ [HS HO]
  · intro h
    have h0 : t.val = 0 := (cond1_iff t).mp h
    rw [h0, state_zero, show dues c 0 = (((OR c + sg c 3) + sg c 2) + sg c 1) + sg c 0 from (if_pos rfl).trans (O₀_eq c)]
    unfold atStart toks
    iintro ⟨⟨⟨⟨%X, Hacc⟩, Htot, Hrcv, ⟨%K, #HR, #HL, #Hre, Hat, Hb, ⟨Tb, Ts, Tr⟩, Cb, Cr⟩, Hidle⟩, HO⟩, Hk⟩
    ihave Hacc := (Entails.of_eq (owns_whole c cc0_scratch0 fullShare X).symm) $$ Hacc
    iapply (wp_ldown c accM zeros2 fullShare X) $$ Hacc
    iintro Hacc
    iapply (wp_stown c accM zeros2 X k0_pay1) $$ Hacc
    iintro Hacc
    ihave Hp := (pays (F := F) c) $$ [Hrcv]
    · isplitl [Hrcv]; · iexact Hrcv
      iexact Hre
    icases Hp with ⟨⟨P0, P1, P2, P3⟩, S0, S1, S2⟩
    ihave Tb := (Entails.of_eq (bigSep_dev _)) $$ Tb
    icases Tb with ⟨T0, T1, T2, T3⟩
    iapply (guard_sig m K c 0 (cond2_iff c) (fun _ => Fin.ext k0_dev1_eq) (((OR c + sg c 3) + sg c 2) + sg c 1)) $$ [HO T0 P0]
    · isplitr; · iexact HR
      isplitl [HO]; · iexact HO
      isplitl [T0]; · iexact T0
      iexact P0
    iintro HO
    iapply (guard_sig m K c 1 (cond3_iff c) (fun _ => Fin.ext k0_dev2_eq) ((OR c + sg c 3) + sg c 2)) $$ [HO T1 P1]
    · isplitr; · iexact HR
      isplitl [HO]; · iexact HO
      isplitl [T1]; · iexact T1
      iexact P1
    iintro HO
    iapply (guard_sig m K c 2 (cond4_iff c) (fun _ => Fin.ext k0_dev3_eq) (OR c + sg c 3)) $$ [HO T2 P2]
    · isplitr; · iexact HR
      isplitl [HO]; · iexact HO
      isplitl [T2]; · iexact T2
      iexact P2
    iintro HO
    iapply (guard_sig m K c 3 (cond5_iff c) (fun _ => Fin.ext k0_dev4_eq) (OR c)) $$ [HO T3 P3]
    · isplitr; · iexact HR
      isplitl [HO]; · iexact HO
      isplitl [T3]; · iexact T3
      iexact P3
    unfold owesAny
    iintro ⟨%W, HO⟩
    iapply (wp_bar m K c W) $$ [Cb HO Hb]
    · isplitr; · iexact HR
      isplitr; · iexact HL
      isplitl [Cb]; · iexact Cb
      isplitl [HO]; · iexact HO
      iexact Hb
    iintro ⟨HO, Hb, HP⟩
    iapply Hk
    unfold met atMet
    ihave Hi := (items (F := F) c) $$ [Hat Ts Tr HP]
    · isplitr; · iexact Hre
      isplitl [Hat]; · iexact Hat
      isplitl [Ts]; · iexact Ts
      isplitl [Tr]; · iexact Tr
      iexact HP
    icases Hi with ⟨Hi, A4⟩
    ihave Cr := (Entails.of_eq (bigSep_dev _)) $$ Cr
    icases Cr with ⟨C0, C1, C2, -⟩
    isplitr [HO]
    · isplitl [Hacc]; · iexact Hacc
      isplitl [Htot]; · iexact Htot
      isplitr [Hidle]
      · iexists K
        isplitr; · iexact HR
        isplitl [S0]; · iexact S0
        isplitl [S1]; · iexact S1
        isplitl [S2]; · iexact S2
        isplitl [Hi]; · iexact Hi
        isplitl [C0 C1 C2]
        · isplitl [C0]; · iexact C0
          isplitl [C1]; · iexact C1
          iexact C2
        isplitl [A4]; · iexact A4
        iexact Hb
      iexact Hidle
    iexists _
    iexact HO
  · intro h
    have h0 : t.val ≠ 0 := fun h0 => h ((cond1_iff t).mpr h0)
    rw [state_mid m c t.val h0 ht8, dues_mid c t.val h0 ht8]
  · isplitl [HS]; · iexact HS
    iexact HO
  unfold met
  iintro ⟨⟨Hacc, Htot, HM, Hidle⟩, HO⟩
  iapply (wp_ldown c arg1 zeros2 fullShare (xblk m c t)) $$ Hx
  iintro Hx
  iapply (wp_ldown c accM zeros2 fullShare (accAt m c t.val)) $$ Hacc
  iintro Hacc
  iapply (wp_ldown c accM zeros2 fullShare (accAt m c t.val)) $$ Hacc
  iintro Hacc
  iapply (wp_stown c accM zeros2 (accAt m c t.val) (k0_pay2 (xblk m c t) (accAt m c t.val))) $$ Hacc
  iintro Hacc
  ihave Hacc := (Entails.of_eq (congrArg (fun X => (owns (c : Thread nD τ) accM fullShare X : sProp 𝕄)) (accAt_succ m c t)).symm) $$ Hacc
  iapply (wp_if (c := c) iprop(met m c (t.val + 1) ∗ owesAny c (OR c) ∗ owns (c : Thread nD τ) arg2 fullShare Y)
      iprop(state m c (t.val + 1) ∗ owesAny c (dues c (t.val + 1)) ∗ owns (c : Thread nD τ) arg2 fullShare (outAt m c t.val Y)) ?_ ?_) $$ [Hacc Htot HM Hidle HO Hy]
  · intro h
    have h7 : t.val = 7 := (cond6_iff t).mp h
    rw [h7, state_last, show dues c (7 + 1) = 0 from (if_neg (by decide)).trans (if_neg (by decide)), show outAt m c 7 Y = carry m c from if_pos rfl]
    unfold met atMet
    iintro ⟨⟨⟨Hacc, ⟨%X, Htot⟩, ⟨%K, #HR, S0, S1, S2, Hi, ⟨C0, C1, C2⟩, ⟨A4, A5, A6⟩, Hb⟩, Hidle⟩, HO, Hy⟩, Hk⟩
    ihave Htot := (Entails.of_eq (owns_whole c cc0_scratch1 fullShare X).symm) $$ Htot
    iapply (wp_seq (c := c) (S := iprop(records m K ∗ tailPre m c)) (S' := tailPost m c)
      (tail_spec m K c (grid0.coords t) arg1 harg1 arg2 harg2 harg3 harg4 harg5 h)) $$ [Hacc Htot S0 S1 S2 HO Hi C0 A4]
    · isplitr; · iexact HR
      unfold tailPre
      isplitl [Hacc]; · iexact Hacc
      isplitl [Htot]; · iexists X; iexact Htot
      isplitl [S0]; · iexact S0
      isplitl [S1]; · iexact S1
      isplitl [S2]; · iexact S2
      isplitl [HO]; · iexact HO
      isplitl [Hi]; · iexact Hi
      isplitl [C0]; · iexact C0
      iexact A4
    unfold tailPost
    iintro ⟨Hacc, Htot, S0, S1, S2, HO, Hi, A4⟩
    iapply (guard_rcv m K c 1 (gt1_iff c) rfl rfl) $$ [C1 HO A5 S1]
    · isplitr; · iexact HR
      isplitl [C1]; · iexact C1
      isplitl [HO]; · iexact HO
      isplitl [A5]; · iexact A5
      iexact S1
    iintro ⟨HO, A5, S1⟩
    iapply (guard_rcv m K c 2 (gt2_iff c) rfl rfl) $$ [C2 HO A6 S2]
    · isplitr; · iexact HR
      isplitl [C2]; · iexact C2
      isplitl [HO]; · iexact HO
      isplitl [A6]; · iexact A6
      iexact S2
    iintro ⟨HO, A6, S2⟩
    iapply (wp_ldslot c 0 rfl (slotVal m c 0)) $$ S0
    iintro %v0 %h0 S0
    iapply (wp_ldslot c 1 rfl (slotVal m c 1)) $$ S1
    iintro %v1 %h1 S1
    iapply (wp_ldslot c 2 rfl (slotVal m c 2)) $$ S2
    iintro %v2 %h2 S2
    have hv : k0_pay3 v0 v1 v2 = carry m c := by
      obtain ⟨f0, rfl, h0⟩ := h0
      obtain ⟨f1, rfl, h1⟩ := h1
      obtain ⟨f2, rfl, h2⟩ := h2
      exact congrArg₂ mulf (congrArg₂ mulf ((slot_read 0 f0).trans h0) ((slot_read 1 f1).trans h1)) ((slot_read 2 f2).trans h2)
    iapply (wp_ldown c arg2 zeros2 fullShare Y) $$ Hy
    iintro Hy
    iapply (wp_stown c arg2 zeros2 Y (k0_pay3 v0 v1 v2)) $$ Hy
    iintro Hy
    ihave Hy := (Entails.of_eq (congrArg (fun X => (owns (c : Thread nD τ) arg2 fullShare X : sProp 𝕄)) hv)) $$ Hy
    imod (close_all m K c) $$ [Hi A4 A5 A6 Hb] with HZ
    · isplitr; · iexact HR
      isplitl [Hi]; · iexact Hi
      isplitl [A4]; · iexact A4
      isplitl [A5]; · iexact A5
      isplitl [A6]; · iexact A6
      iexact Hb
    iapply Hk
    isplitr [HO Hy]
    · isplitl [Hacc]
      · iexists (accAt m c 8); iapply (Entails.of_eq (owns_whole c cc0_scratch0 fullShare (accAt m c 8))); iexact Hacc
      isplitl [Htot]
      · iexists (tot m c); iapply (Entails.of_eq ((totPts_eq m c fullShare).trans (owns_whole c cc0_scratch1 fullShare (tot m c)))); iexact Htot
      isplitl [S0 S1 S2]
      · iapply (rcv_join c)
        isplitl [S0]; · iapply (slotAt_any c 0 _); iexact S0
        isplitl [S1]; · iapply (slotAt_any c 1 _); iexact S1
        iapply (slotAt_any c 2 _); iexact S2
      isplitl [HZ]; · unfold semsZero; iexact HZ
      iexact Hidle
    isplitl [HO]; · iexact HO
    iexact Hy
  · intro h
    have h7 : t.val ≠ 7 := fun h7 => h ((cond6_iff t).mpr h7)
    rw [state_mid m c (t.val + 1) (Nat.succ_ne_zero _) (by omega), dues_mid c (t.val + 1) (Nat.succ_ne_zero _) (by omega),
      show outAt m c t.val Y = Y from if_neg h7]
  · unfold met
    isplitr [HO Hy]
    · isplitl [Hacc]; · iexact Hacc
      isplitl [Htot]; · iexact Htot
      isplitl [HM]; · iexact HM
      iexact Hidle
    isplitl [HO]; · iexact HO
    iexact Hy
  iintro ⟨HS, HO, Hy⟩
  rw [wp_ret]; imodintro
  isplitl [HS]; · iexact HS
  isplitl [HO]; · iexact HO
  isplitl [Hx]; · iexact Hx
  iexact Hy

end Cert.Proof

end
-- ==== Proof.Data.lean ====
/-
  What the two kernels hold and leave, point by point, and that one grid point of each does as stated.
-/
module

public import proofs.«01_k».proof.Proof.Body0
public import Idealize.ShloMosaic.Lib.Pipeline.Regions
public import Idealize.ShloMosaic.Lib.Pipeline.RegionTalk
public import Idealize.ShloMosaic.Lib.Pipeline.RegionArrays

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The first kernel -/

/-- The buffers of device `c` at launch. -/
abbrev Vat0 (c : Dev nD) : Valuation τ sig (Elt F) := fun b => m (c, b)

/-- The first kernel's data: its first window holds the block of the argument, its second the product of the earlier totals. -/
def dat0 (c : Dev nD) : Dat τ (Elt F) Unit ℕ UU ℕ cfg0 c where
  A := fun | 0 => m ((c : Thread nD τ).loc main_arg0) | 1 => m ((c : Thread nD τ).loc main_v1)
  after := fun | 0 => fun t => xblk m c t | 1 => fun _ => carry m c
  Φ t := state m c t.val
  q := fun _ => fullShare
  owed t := dues c t.val

theorem before0_0 (c : Dev nD) (t : Fin cfg0.N) (d) : (dat0 m c).before 0 t d = xblk m c t := by
  unfold Dat.before; rw [if_pos (fetch0_0 t)]; rfl

/-- A run's result, used further. -/
theorem wp_then {c : Dev nD} {S S' : sProp 𝕄} {P : Prog (TpuEff nD τ sig (Elt F) Λ₀ .tc) PUnit} {Q : PUnit → sProp 𝕄}
    (h : S ⊢ wp frame (wpE (defs₀ (F := F)) 𝒱₀ (c : Thread nD τ) none) Set.univ P (fun _ => S')) :
    S ⊢ iprop((S' -∗ Q ⟨⟩) -∗ wp frame (wpE (defs₀ (F := F)) 𝒱₀ (c : Thread nD τ) none) Set.univ P Q) := by
  refine BI.wand_intro ((sep_mono_left h).trans ((wp_frame_r frame _ Set.univ).trans (wp_mono frame _ Set.univ fun _ => ?_)))
  show iprop(S' ∗ (S' -∗ Q ⟨⟩)) ⊢ Q ⟨⟩
  iintro ⟨HS, Hk⟩
  iapply Hk
  iexact HS

omit [FloatOps F] in
theorem owesAt_in {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    (owesAny c O : sProp 𝕄) ⊢ dat.owesAt () t := by
  unfold owesAny Dat.owesAt Pipeline.owesWithin Dat.bound
  rw [h0, hr]
  iintro ⟨%W, HO⟩
  iexists W
  isplitr; · ipureintro; exact fun _ _ => Or.inl trivial
  iexact HO

omit [FloatOps F] in
theorem owesAt_out {cfg : Pipeline.Cfg sig Λ₀} {c : Dev nD} (dat : Dat τ (Elt F) Unit ℕ UU ℕ cfg c) (t : Fin (cfg.N + 1))
    (O : CellTallies nD τ sig Unit) (h0 : dat.owed t = O) :
    dat.owesAt () t ⊢ (owesAny c O : sProp 𝕄) := by
  unfold owesAny Dat.owesAt Pipeline.owesWithin
  rw [h0]
  iintro ⟨%W, -, HO⟩
  iexists W; iexact HO

/-- What the second window must hold after a point is what the point leaves there. -/
theorem left0_1 (c : Dev nD) (t : Fin cfg0.N) (d) :
    (owns (c : Thread nD τ) (st0_1 t) fullShare (outAt m c t.val ((dat0 m c).before 1 t d)) : sProp 𝕄)
      ⊢ (match cfg0.idle 1 (cfg0.grid.coords t) with
        | true => match (cfg0.win 1).flush t with
          | false => iprop(∃ d, owns (c : Thread nD τ) (st0_1 t) fullShare ((dat0 m c).before 1 t d))
          | true => owns (c : Thread nD τ) (st0_1 t) fullShare ((dat0 m c).after 1 t)
        | false => owns (c : Thread nD τ) (st0_1 t) fullShare ((dat0 m c).after 1 t)) := by
  have hN : t.val < 8 := by have h := t.isLt; have hN : cfg0.N = 8 := N_0; omega
  by_cases h : t.val = 7
  · have e : cfg0.idle 1 (cfg0.grid.coords t) = false := by
      show (!(k0_cond6 (grid0.coords t) == 1#1)) = false
      rw [(cond6_iff t).mpr h]; rfl
    rw [e, show outAt m c t.val ((dat0 m c).before 1 t d) = carry m c from if_pos h]
    exact BI.Entails.refl _
  · have e : cfg0.idle 1 (cfg0.grid.coords t) = true := by
      show (!(k0_cond6 (grid0.coords t) == 1#1)) = true
      rw [Bool.not_eq_true', beq_eq_false_iff_ne]
      exact fun h6 => h ((cond6_iff t).mp h6)
    have f : (cfg0.win 1).flush t = false := by
      rw [Bool.eq_false_iff]; exact fun hf => h (by have := (flush0_1 t).mp hf; omega)
    rw [e, f, show outAt m c t.val ((dat0 m c).before 1 t d) = (dat0 m c).before 1 t d from if_neg h]
    show _ ⊢ iprop(∃ d, owns (c : Thread nD τ) (st0_1 t) fullShare ((dat0 m c).before 1 t d))
    iintro H
    iexists d; iexact H

theorem body0 (c : Dev nD) : BodyObligation (dat0 (F := F) m c) defs₀ 𝒱₀ () Set.univ := fun t => by
  rw [bigSep_W0, bigSep_W0]
  show iprop(state m c t.val ∗ (dat0 m c).owesAt () t.castSucc
      ∗ (∃ d, owns (c : Thread nD τ) (st0_0 t) fullShare ((dat0 m c).before 0 t d)) ∗ ∃ d, owns (c : Thread nD τ) (st0_1 t) fullShare ((dat0 m c).before 1 t d))
    ⊢ wp frame (wpE (defs₀ (F := F)) 𝒱₀ (c : Thread nD τ) none) Set.univ (bodyAt0 t) _
  iintro ⟨HS, HO, ⟨%d0, Hx⟩, %d1, Hy⟩
  ihave HO := (owesAt_out (dat0 m c) t.castSucc (dues c t.val) rfl) $$ HO
  ihave Hx := (Entails.of_eq (congrArg (fun X => (owns (c : Thread nD τ) (st0_0 t) fullShare X : sProp 𝕄)) (before0_0 m c t d0))) $$ Hx
  iapply (wp_then (body_run m c t (st0_0 t) (hstage0_0 ((cfg0.slots t 0).cast nbuf0_0)) (st0_1 t) (hstage0_1 ((cfg0.slots t 1).cast nbuf0_1))
    (Memref.isWhole_whole _) (Memref.isWhole_whole _) (Memref.isWhole_whole _) ((dat0 m c).before 1 t d1))) $$ [HS HO Hx Hy]
  · isplitl [HS]; · iexact HS
    isplitl [HO]; · iexact HO
    isplitl [Hx]; · iexact Hx
    iexact Hy
  iintro ⟨HS, HO, Hx, Hy⟩
  isplitl [HS]; · iapply (Entails.of_eq (show state m c (t.val + 1) = (dat0 m c).Φ t.succ from rfl)); iexact HS
  isplitl [HO]; · iapply (owesAt_in (dat0 m c) t.succ (dues c (t.val + 1)) rfl rfl); iexact HO
  isplitl [Hx]; · iexact Hx
  iapply (left0_1 m c t d1); iexact Hy

/-! ## The second kernel -/

/-- Block `t` of the argument as the second kernel reads it, -/
def yblk (c : Dev nD) (t : Fin grid1.N) : FVec F S1024x1024 .f32 :=
  (win1_0.blk t).view.read (Elt F) (m ((c : Thread nD τ).loc main_arg0))

/-- The row that the first kernel leaves. -/
def mid (c : Dev nD) : Buf (Elt F) ((c : Thread nD τ).loc main_v1) := (dat0 m c).arrAt 1 cfg0.N

/-- and as the second kernel reads it. -/
def first (c : Dev nD) (t : Fin grid1.N) : FVec F S1x1024 .f32 := (win1_1.blk t).view.read (Elt F) (mid m c)

/-- A block with the row `r` in front, scanned; and its last row. -/
def scanned (x : FVec F S1024x1024 .f32) (r : FVec F S1x1024 .f32) : FVec F S1024x1024 .f32 := k1_pay1 (k1_pay4 x) (k1_pay5 x) (k1_pay6 x) r
def lastRow (x : FVec F S1024x1024 .f32) (r : FVec F S1x1024 .f32) : FVec F S1x1024 .f32 := k1_pay2 (k1_pay4 x) (k1_pay5 x) (k1_pay6 x) r

/-- The row carried into block `n`. -/
def rowAt (c : Dev nD) : ℕ → FVec F S1x1024 .f32
  | 0 => k1_pay3 (first m c t1_0)
  | n + 1 => if h : n < grid1.N then lastRow (yblk m c ⟨n, h⟩) (rowAt c n) else rowAt c n

theorem rowAt_succ (c : Dev nD) (t : Fin grid1.N) : rowAt m c (t.val + 1) = lastRow (yblk m c t) (rowAt m c t.val) := dif_pos t.isLt

/-- The scoped buffers that the second kernel does not touch. -/
def restBufs (c : Dev nD) : sProp 𝕄 :=
  iprop(someBuf (F := F) c cc0_stg0_0 ∗ someBuf (F := F) c cc0_stg0_1 ∗ someBuf (F := F) c cc0_stg1_0 ∗ someBuf (F := F) c cc0_scratch0
    ∗ someBuf (F := F) c cc0_scratch1 ∗ someBuf (F := F) c cc0_scratch2)

/-- The carried row between points. -/
def rowState (c : Dev nD) (n : ℕ) : sProp 𝕄 :=
  if n = 0 then someBuf (F := F) c cc1_scratch0 else owns (c : Thread nD τ) (Memref.whole cc1_scratch0) fullShare (rowAt m c n)

/-- The second kernel's data: its windows hold the block of the argument, the first kernel's row, and the scanned block. -/
def dat1 (c : Dev nD) : Dat τ (Elt F) Unit ℕ UU ℕ cfg1 c where
  A := fun | 0 => m ((c : Thread nD τ).loc main_arg0) | 1 => mid m c | 2 => m ((c : Thread nD τ).loc main_v2)
  after := fun | 0 => fun t => yblk m c t | 1 => fun _ => first m c t1_0 | 2 => fun t => scanned (yblk m c t) (rowAt m c t.val)
  Φ t := iprop(restBufs c ∗ rowState m c t.val)
  q := fun _ => fullShare
  owed _ := 0

theorem before1_0 (c : Dev nD) (t : Fin cfg1.N) (d) : (dat1 m c).before 0 t d = yblk m c t := by
  unfold Dat.before; rw [if_pos (fetch1_0 t)]; rfl

/-- The second window, fetched once, holds the first kernel's row at every point. -/
theorem before1_1 (c : Dev nD) (t : Fin cfg1.N) (d) : (dat1 m c).before 1 t d = first m c t1_0 := by
  have hN : t.val < 8 := by have h := t.isLt; have hN : cfg1.N = 8 := N_1; omega
  unfold Dat.before
  by_cases h : t.val = 0
  · obtain rfl : t = t1_0 := Fin.ext h
    rw [if_pos ((fetch1_1 t1_0).mpr rfl)]; rfl
  · rw [if_neg (by rw [fetch1_1 t]; omega), if_neg h]
    have hf : (cfg1.win 1).flush ⟨t.val - 1, lt_of_le_of_lt (Nat.sub_le _ _) t.isLt⟩ = false := Pipeline.Window.flush_in _ rfl _
    simp only [hf]
    rfl

theorem start1_iff (t : Fin grid1.N) :
    Scalar.cmpi .ne (Scalar.extui (Scalar.cmpi .eq (BitVec.ofNat 32 ((grid1.coords t) 0).val) 0#32)) 0#32 = 1#1 ↔ t.val = 0 := by
  revert t; decide

omit [FloatOps F] in
/-- What follows a choice follows either side of it. -/
theorem dite_then {p : Prop} [Decidable p] {α β : Type} (A : p → Prog (TpuEff nD τ sig (Elt F) Λ₀ .tc) α)
    (B : ¬ p → Prog (TpuEff nD τ sig (Elt F) Λ₀ .tc) α) (k : α → Prog (TpuEff nD τ sig (Elt F) Λ₀ .tc) β) :
    (dite p A B >>= k) = dite p (fun h => A h >>= k) (fun h => B h >>= k) := by
  by_cases h : p
  · rw [dif_pos h, dif_pos h]
  · rw [dif_neg h, dif_neg h]

theorem rowState_succ (c : Dev nD) (t : Fin grid1.N) : rowState (F := F) m c (t.val + 1)
    = owns (c : Thread nD τ) (Memref.whole cc1_scratch0) fullShare (lastRow (yblk m c t) (rowAt m c t.val)) := by
  unfold rowState
  rw [if_neg (Nat.succ_ne_zero t.val), rowAt_succ]

/-- One grid point of the second kernel: it takes the first row into its carried row at the first point, scans its block behind the
carried row, and carries the last row on. -/
theorem scan_run (c : Dev nD) (t : Fin grid1.N) (arg1 : Memref sig .tc .vmem S1024x1024 .f32) (harg1 : arg1.IsWhole)
    (arg2 : Memref sig .tc .vmem S1x1024 .f32) (harg2 : arg2.IsWhole) (arg3 : Memref sig .tc .vmem S1024x1024 .f32) (harg3 : arg3.IsWhole)
    (harg4 : (Memref.whole (sig := sig) cc1_scratch0).IsWhole) (Y : FVec F S1024x1024 .f32) :
    iprop(rowState m c t.val ∗ owns (c : Thread nD τ) arg1 fullShare (yblk m c t) ∗ owns (c : Thread nD τ) arg2 fullShare (first m c t1_0)
        ∗ owns (c : Thread nD τ) arg3 fullShare Y)
      ⊢ wp frame (wpE (defs₀ (F := F)) 𝒱₀ (c : Thread nD τ) none) Set.univ
          (cc1_body (grid1.coords t) arg1 harg1 arg2 harg2 arg3 harg3 (Memref.whole cc1_scratch0) harg4)
          (fun _ => iprop(rowState m c (t.val + 1) ∗ owns (c : Thread nD τ) arg1 fullShare (yblk m c t) ∗ owns (c : Thread nD τ) arg2 fullShare (first m c t1_0)
            ∗ owns (c : Thread nD τ) arg3 fullShare (scanned (yblk m c t) (rowAt m c t.val)))) := by
  simp only [cc1_body_eq_skeleton]; unfold cc1_body_skel
  simp only [k1_part1_eq_skeleton]; unfold k1_part1_skel
  simp only [Prog.lift, Prog.bind_op, Prog.bind_ret, Prog.pure_eq_ret, Prog.bind_assoc, dite_then]
  iintro ⟨HS, Hx, Hy, Ho⟩
  iapply (wp_if (c := c) iprop(rowState m c t.val ∗ owns (c : Thread nD τ) arg2 fullShare (first m c t1_0))
    iprop(owns (c : Thread nD τ) (Memref.whole cc1_scratch0) fullShare (rowAt m c t.val) ∗ owns (c : Thread nD τ) arg2 fullShare (first m c t1_0)) ?_ ?_) $$ [HS Hy]
  · intro h
    rw [(start1_iff t).mp h, show rowState (F := F) m c 0 = someBuf c cc1_scratch0 from if_pos rfl]
    iintro ⟨⟨⟨%X, HS⟩, Hy⟩, Hk⟩
    ihave HS := (Entails.of_eq (owns_whole c cc1_scratch0 fullShare X).symm) $$ HS
    iapply (wp_ldown c arg2 zeros2 fullShare (first m c t1_0)) $$ Hy
    iintro Hy
    iapply (wp_ldown c (Memref.whole cc1_scratch0) zeros2 fullShare X) $$ HS
    iintro HS
    iapply (wp_stown c (Memref.whole cc1_scratch0) zeros2 X (k1_pay3 (first m c t1_0))) $$ HS
    iintro HS
    iapply Hk
    isplitl [HS]; · iexact HS
    iexact Hy
  · intro h
    rw [show rowState (F := F) m c t.val = owns (c : Thread nD τ) (Memref.whole cc1_scratch0) fullShare (rowAt m c t.val) from
      if_neg fun h0 => h ((start1_iff t).mpr h0)]
  · isplitl [HS]; · iexact HS
    iexact Hy
  iintro ⟨HS, Hy⟩
  iapply (wp_ldown c arg1 zeros2 fullShare (yblk m c t)) $$ Hx
  iintro Hx
  iapply (wp_ldown c (Memref.whole cc1_scratch0) zeros2 fullShare (rowAt m c t.val)) $$ HS
  iintro HS
  iapply (wp_ldown c arg3 zeros2 fullShare Y) $$ Ho
  iintro Ho
  iapply (wp_stown c arg3 zeros2 Y (scanned (yblk m c t) (rowAt m c t.val))) $$ Ho
  iintro Ho
  iapply (wp_ldown c (Memref.whole cc1_scratch0) zeros2 fullShare (rowAt m c t.val)) $$ HS
  iintro HS
  iapply (wp_stown c (Memref.whole cc1_scratch0) zeros2 (rowAt m c t.val) (lastRow (yblk m c t) (rowAt m c t.val))) $$ HS
  iintro HS
  rw [wp_ret]; imodintro
  isplitl [HS]
  · iapply (Entails.of_eq (rowState_succ m c t).symm)
    iexact HS
  isplitl [Hx]; · iexact Hx
  isplitl [Hy]; · iexact Hy
  iexact Ho

theorem body1 (c : Dev nD) : BodyObligation (dat1 (F := F) m c) defs₀ 𝒱₀ () Set.univ := fun t => by
  rw [bigSep_W1, bigSep_W1]
  show iprop((restBufs c ∗ rowState m c t.val) ∗ (dat1 m c).owesAt () t.castSucc
      ∗ (∃ d, owns (c : Thread nD τ) (st1_0 t) fullShare ((dat1 m c).before 0 t d)) ∗ (∃ d, owns (c : Thread nD τ) (st1_1 t) fullShare ((dat1 m c).before 1 t d))
      ∗ ∃ d, owns (c : Thread nD τ) (st1_2 t) fullShare ((dat1 m c).before 2 t d))
    ⊢ wp frame (wpE (defs₀ (F := F)) 𝒱₀ (c : Thread nD τ) none) Set.univ (bodyAt1 t)
      (fun _ => iprop((restBufs c ∗ rowState m c (t.val + 1)) ∗ (dat1 m c).owesAt () t.succ
        ∗ owns (c : Thread nD τ) (st1_0 t) fullShare (yblk m c t) ∗ owns (c : Thread nD τ) (st1_1 t) fullShare (first m c t1_0)
        ∗ owns (c : Thread nD τ) (st1_2 t) fullShare (scanned (yblk m c t) (rowAt m c t.val))))
  iintro ⟨⟨HR, HS⟩, HO, ⟨%d0, Hx⟩, ⟨%d1, Hy⟩, %d2, Ho⟩
  ihave Hx := (Entails.of_eq (congrArg (fun X => (owns (c : Thread nD τ) (st1_0 t) fullShare X : sProp 𝕄)) (before1_0 m c t d0))) $$ Hx
  ihave Hy := (Entails.of_eq (congrArg (fun X => (owns (c : Thread nD τ) (st1_1 t) fullShare X : sProp 𝕄)) (before1_1 m c t d1))) $$ Hy
  iapply (wp_then (scan_run m c t (st1_0 t) (hstage1_0 ((cfg1.slots t 0).cast nbuf1_0)) (st1_1 t) (hstage1_1 ((cfg1.slots t 1).cast nbuf1_1))
    (st1_2 t) (hstage1_2 ((cfg1.slots t 2).cast nbuf1_2)) (Memref.isWhole_whole _) ((dat1 m c).before 2 t d2))) $$ [HS Hx Hy Ho]
  · isplitl [HS]; · iexact HS
    isplitl [Hx]; · iexact Hx
    isplitl [Hy]; · iexact Hy
    iexact Ho
  iintro ⟨HS, Hx, Hy, Ho⟩
  isplitl [HR HS]
  · isplitl [HR]; · iexact HR
    iexact HS
  isplitl [HO]; · iexact HO
  isplitl [Hx]; · iexact Hx
  isplitl [Hy]; · iexact Hy
  iexact Ho

end Cert.Proof

end
-- ==== Proof.Launch.lean ====
/-
  The two kernels as regions of the program: what each is entered from and what it leaves.
-/
module

public import proofs.«01_k».proof.Proof.Data
public import proofs.«01_k».proof.Proof.Gen.KernelIdeal.Regions

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The two kernels' data. -/
def pdats : (p : Fin 2) → (c : Dev nD) → Dat τ (Elt F) Unit ℕ UU ℕ (cfgs p) c := fun | 0 => dat0 m | 1 => dat1 m

/-! ## The buffers between the kernels -/

/-- What the second kernel leaves in the result. -/
def out (c : Dev nD) : Buf (Elt F) ((c : Thread nD τ).loc main_v2) := (dat1 m c).arrAt 2 cfg1.N

/-- The buffers of device `c` after the first kernel, -/
def Vat1 (c : Dev nD) : Valuation τ sig (Elt F) := Function.update (Vat0 m c) (Proc.devRef .tc main_v1) (mid m c)
/-- and after the second. -/
def Vat2 (c : Dev nD) : Valuation τ sig (Elt F) := Function.update (Vat1 m c) (Proc.devRef .tc main_v2) (out m c)

theorem Vat1_arg0 (c : Dev nD) : Vat1 m c (Proc.devRef .tc main_arg0) = m ((c : Thread nD τ).loc main_arg0) :=
  Function.update_of_ne (StableHlo.devRef_ne_of_ne (by decide)) _ _
theorem Vat1_v1 (c : Dev nD) : Vat1 m c (Proc.devRef .tc main_v1) = mid m c := Function.update_self _ _ _
theorem Vat1_v2 (c : Dev nD) : Vat1 m c (Proc.devRef .tc main_v2) = m ((c : Thread nD τ).loc main_v2) :=
  Function.update_of_ne (StableHlo.devRef_ne_of_ne (by decide)) _ _
theorem Vat2_arg0 (c : Dev nD) : Vat2 m c (Proc.devRef .tc main_arg0) = m ((c : Thread nD τ).loc main_arg0) :=
  (Function.update_of_ne (StableHlo.devRef_ne_of_ne (by decide)) _ _).trans (Vat1_arg0 m c)
theorem Vat2_v1 (c : Dev nD) : Vat2 m c (Proc.devRef .tc main_v1) = mid m c :=
  (Function.update_of_ne (StableHlo.devRef_ne_of_ne (by decide)) _ _).trans (Vat1_v1 m c)
theorem Vat2_v2 (c : Dev nD) : Vat2 m c (Proc.devRef .tc main_v2) = out m c := Function.update_self _ _ _

/-- The buffers of the program that the first kernel has no window on. -/
abbrev offBufs : Finset (DevRef τ sig) := Pipeline.ucRefs τ sig \ Pipeline.arrRefs (τ := τ) spec0

theorem arr0_sub : Pipeline.arrRefs (τ := τ) spec0 ⊆ Pipeline.ucRefs τ sig := by decide
theorem arr1_eq : Pipeline.arrRefs (τ := τ) spec1 = Pipeline.ucRefs τ sig := by decide
theorem v1_mem : (Proc.devRef .tc main_v1 : DevRef τ sig) ∈ Pipeline.arrRefs (τ := τ) spec0 := by decide

/-! ## The first kernel's region -/

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

/-- What device `c` knows and holds of the exchange at launch, the kernel's own semaphores not yet opened. -/
def atLaunch (c : Dev nD) : sProp 𝕄 :=
  iprop(∃ K, records (F := F) m K ∗ bigSep Finset.univ (fun k : Fin 7 => (openTok ER (ownCell c k) : sProp 𝕄)) ∗ atPos ER (barCell c) 0 ∅ 0
    ∗ toks c ∗ cred (tallyAt (barCell c) () 3) ∗ bigSep Finset.univ (fun j : Dev nD => (cred (sd j c) : sProp 𝕄)))

/-- One of the kernel's semaphores, opened. -/
theorem open_one (K : GSem nD τ sig → ℕ) (c : Dev nD) (k : Fin 7) :
    iprop(records m K ∗ (openTok ER (ownCell c k) ∗ semVal (ownCell c k) 0))
      ⊢ (|={Set.univ}=> iprop(atPos ER (ownCell c k) 0 ∅ 0 ∗ reached ER (ownCell c k) 0) : sProp 𝕄) :=
  (sep_mono_left (records_inv m K (own_mem c k))).trans (Rounds.cell_open ER (rd m) (Set.mem_univ _))

/-- All of them, as the kernel is entered. -/
theorem open_all (c : Dev nD) : iprop(atLaunch m c ∗ Pipeline.ownSems0 osem c ∗ levAts L lv) ⊢ (|={Set.univ}=> atStart m c : sProp 𝕄) := by
  unfold atLaunch atStart Pipeline.ownSems0
  iintro ⟨⟨%K, #HR, Hop, Hb, Ht, Hc, Hd⟩, Hs, #HL⟩
  ihave H := (Entails.of_eq (bigSep_sep' Finset.univ (fun k : Fin 7 => (openTok ER (ownCell c k) : sProp 𝕄)) (fun k : Fin 7 => semVal (ownCell c k) 0)).symm) $$ [Hop Hs]
  · isplitl [Hop]; · iexact Hop
    iexact Hs
  ihave H := (bigSep_with_persistent (S := Finset.univ) (R := records m K) (fun (k : Fin 7) _ => open_one m K c k)) $$ [H]
  · isplitr; · iexact HR
    iexact H
  imod (bigSep_fupd Finset.univ _) $$ H with H
  ihave H := (Entails.of_eq (bigSep_sep' Finset.univ (fun k : Fin 7 => (atPos ER (ownCell c k) 0 ∅ 0 : sProp 𝕄)) (fun k : Fin 7 => reached ER (ownCell c k) 0))) $$ H
  icases H with ⟨Ha, Hr⟩
  imodintro
  iexists K
  isplitr; · iexact HR
  isplitr; · iexact HL
  isplitl [Hr]; · iexact Hr
  isplitl [Ha]; · iexact Ha
  isplitl [Hb]; · iexact Hb
  isplitl [Ht]; · iexact Ht
  isplitl [Hc]; · iexact Hc
  iexact Hd

theorem enter0 (c : Dev nD) : iprop(Pipeline.scopedRest spec0 c ∗ (∃ r, prngReg c r) ∗ StableHlo.held (c.tc : Thread nD τ) ∅ (Vat0 m c) ∗ atStart m c)
    ⊢ state m c 0 := by
  rw [scopedRest0_eq, state_zero]
  unfold idleBufs rcvAny
  iintro ⟨⟨A, B, C, D0, D1, D2, D3, D4, D5⟩, Hp, -, HS⟩
  isplitl [A]; · iexact A
  isplitl [B]; · iexact B
  isplitl [C]; · iexact C
  isplitl [HS]; · iexact HS
  isplitr [Hp]
  · isplitl [D0]; · iexact D0
    isplitl [D1]; · iexact D1
    isplitl [D2]; · iexact D2
    isplitl [D3]; · iexact D3
    isplitl [D4]; · iexact D4
    iexact D5
  iexact Hp

theorem leave0 (c : Dev nD) : state m c 8
    ⊢ iprop(Pipeline.scopedRest spec0 c ∗ (∃ r, prngReg c r) ∗ StableHlo.held (c.tc : Thread nD τ) ∅ (Vat1 m c) ∗ Pipeline.ownSems0 osem c
        ∗ semVal (barCell c) 0) := by
  rw [scopedRest0_eq, state_last, show StableHlo.held (c.tc : Thread nD τ) ∅ (Vat1 m c) = (BI.emp : sProp 𝕄) from by
    unfold StableHlo.held; exact BI.bigSep_empty]
  unfold idleBufs rcvAny semsZero Pipeline.ownSems0
  iintro ⟨A, B, C, ⟨Hz, Hb⟩, ⟨D0, D1, D2, D3, D4, D5⟩, Hp⟩
  isplitl [A B C D0 D1 D2 D3 D4 D5]
  · isplitl [A]; · iexact A
    isplitl [B]; · iexact B
    isplitl [C]; · iexact C
    isplitl [D0]; · iexact D0
    isplitl [D1]; · iexact D1
    isplitl [D2]; · iexact D2
    isplitl [D3]; · iexact D3
    isplitl [D4]; · iexact D4
    iexact D5
  isplitl [Hp]; · iexact Hp
  isplitr; · iempintro
  isplitl [Hz]; · iexact Hz
  iexact Hb

/-- The windows' semaphores are at level 0. -/
theorem level_stage0 : ∀ (w : Fin 2) (s : Fin (spec0 w).nbuf), (match kind (.dma ((spec0 w).sem s)) with | .bar => 1 | .rcv _ => 2 | _ => 0) ≤ 0 := by decide
theorem level_stage1 : ∀ (w : Fin 3) (s : Fin (spec1 w).nbuf), (match kind (.dma ((spec1 w).sem s)) with | .bar => 1 | .rcv _ => 2 | _ => 0) ≤ 0 := by decide

theorem dues_pos {c : Dev nD} {n : ℕ} {g : GSem nD τ sig} {u : Unit} (h : 0 < dues c n g u) : u ∈ L g ∧ 0 < lv g u := by
  unfold dues at h
  split at h
  · exact O₀_pos h
  · split at h
    · have := OR_pos h
      exact ⟨this.1, by omega⟩
    · exact absurd h (Nat.lt_irrefl 0)

set_option backward.isDefEq.respectTransparency.types false in
/-- The first kernel's region. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ offBufs (Finset.empty_subset _) kit0 rfl (fun c => (body0 m c).loose)
    (fun _ => 0) O₀ (fun c => (zero_add _).symm) (fun c => rfl) (fun _ => rfl) (fun c w => by fin_cases w <;> rfl)
    (Vat0 m) (Vat1 m) (fun c b hb => Function.update_of_ne (fun h => (Finset.mem_sdiff.mp (Finset.mem_sdiff.mp hb).1).2 (by rw [show b = Proc.devRef .tc main_v1 from h]; exact v1_mem)) _ _)
    (atLaunch m) (fun c => semVal (barCell c) 0) (atStart m) (fun c => semVal (barCell c) 0) (open_all m) (enter0 m) (leave0 m)
    (fun c => by iintro H; imodintro; iexact H)
    (fun _ => 0)
    ⟨fun c w s => by rw [L_tc]; exact Finset.mem_singleton_self _, fun c w s => level_stage0 w s, fun c t g i h => dues_pos h⟩
    (fun _ => iprop(emp))
    (fun c w => by fin_cases w <;> rfl)
    (fun c w => by
      fin_cases w
      · exact ((dat0 m c).arrAt_in 0 rfl _).trans (Vat1_arg0 m c).symm
      · exact (Vat1_v1 m c).symm)

/-! ## The second kernel's region -/

theorem enter1 (c : Dev nD) : iprop(Pipeline.scopedRest spec1 c ∗ emp) ⊢ iprop(restBufs (F := F) c ∗ rowState m c 0) := by
  rw [scopedRest1_eq, show rowState m c 0 = someBuf (F := F) c cc1_scratch0 from if_pos rfl]
  unfold restBufs
  iintro ⟨⟨A, B, C, D0, D1, D2, D3⟩, -⟩
  isplitr [D3]
  · isplitl [A]; · iexact A
    isplitl [B]; · iexact B
    isplitl [C]; · iexact C
    isplitl [D0]; · iexact D0
    isplitl [D1]; · iexact D1
    iexact D2
  iexact D3

theorem leave1 (c : Dev nD) : iprop(restBufs (F := F) c ∗ rowState m c 8) ⊢ iprop(Pipeline.scopedRest spec1 c ∗ emp) := by
  rw [scopedRest1_eq, show rowState m c 8 = owns (c : Thread nD τ) (Memref.whole cc1_scratch0) fullShare (rowAt m c 8) from if_neg (by decide), owns_whole]
  unfold restBufs
  iintro ⟨⟨A, B, C, D0, D1, D2⟩, D3⟩
  isplitl
  · isplitl [A]; · iexact A
    isplitl [B]; · iexact B
    isplitl [C]; · iexact C
    isplitl [D0]; · iexact D0
    isplitl [D1]; · iexact D1
    isplitl [D2]; · iexact D2
    iexists (rowAt m c 8); iexact D3
  iempintro

set_option backward.isDefEq.respectTransparency.types false in
/-- The second kernel's region. -/
def reg1 : Pipeline.RegionSeg (pcfgs (F := F)) adm (pdats m) () defs₀ 𝒱₀ L lv 1 :=
  Pipeline.RegionSeg.ofHeld (pcfgs (F := F)) adm (pdats m) () defs₀ 𝒱₀ L lv 1 (fun _ => 0) (fun _ => iprop(emp)) (fun _ => iprop(emp)) kit1 rfl
    (fun c => (body1 m c).loose) (fun _ _ => rfl) (fun _ => rfl) (fun c w => by fin_cases w <;> rfl) (enter1 m) (leave1 m) (fun _ => 0)
    ⟨fun c w s => by rw [L_tc]; exact Finset.mem_singleton_self _, fun c w s => level_stage1 w s,
      fun c g i h => absurd h (Nat.lt_irrefl 0)⟩
    (fun c => iprop((∃ r, prngReg c r) ∗ semVal (barCell c) 0))
    (Vat1 m) (Vat2 m)
    (fun c w => by
      fin_cases w
      · exact (Vat1_arg0 m c).symm
      · exact (Vat1_v1 m c).symm
      · exact (Vat1_v2 m c).symm)
    (fun c w => by
      fin_cases w
      · exact ((dat1 m c).arrAt_in 0 rfl _).trans (Vat2_arg0 m c).symm
      · exact ((dat1 m c).arrAt_in 1 rfl _).trans (Vat2_v1 m c).symm
      · exact (Vat2_v2 m c).symm)

end Cert.Proof

end
-- ==== Proof.Run.lean ====
/-
  The launch of the program and its run.
-/
module

public import proofs.«01_k».proof.Proof.Launch
public import Idealize.ShloMosaic.Lib.Quiescent

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The credit of the launch -/

omit [FloatOps F] in
/-- The three units on one barrier. -/
theorem units_bar (t : Dev nD) : (∑ d : Dev nD, sg d t) = tallyAt (barCell t) () 3 := by
  have h : ∀ d : Dev nD, sg d t = if d = t then 0 else tallyAt (barCell t) () 1 := fun _ => rfl
  rw [Finset.sum_congr rfl fun d _ => h d, Finset.sum_ite, Finset.sum_const_zero, zero_add, Finset.sum_const,
    show (Finset.univ.filter fun d : Dev nD => ¬ d = t).card = 3 from by
      rw [Finset.filter_ne', Finset.card_erase_of_mem (Finset.mem_univ t), Finset.card_univ]; rfl]
  rw [show (3 : ℕ) = 1 + 1 + 1 from rfl, add_smul, add_smul, one_smul, tallyAt_add, tallyAt_add]

/-- What device `c` is to receive: three units on its barrier and a copy from every earlier device. -/
def credOf (c : Dev nD) : CellTallies nD τ sig Unit := tallyAt (barCell c) () 3 + ∑ j : Dev nD, sd j c

theorem dues_sum : (∑ d, O₀ d) = ∑ d, credOf d := by
  unfold O₀ OR credOf
  rw [Finset.sum_add_distrib, Finset.sum_add_distrib, Finset.sum_comm, Finset.sum_comm (f := fun c t => sd c t)]
  rw [Finset.sum_congr rfl fun t _ => units_bar t]

theorem credOf_core (d : Dev nD) (g : GSem nD τ sig) (h : credOf d g ≠ 0) : g.1 = (d.tc : Thread nD τ) := by
  by_contra hg
  refine h ?_
  have h1 (sm : SemLoc sig) (n : ℕ) : tallyAt (nD := nD) (τ := τ) ((d : Thread nD τ), sm) () n g = 0 :=
    tallyAt_ne_cell (g' := g) (g := ((d : Thread nD τ), sm)) (fun e => hg (congrArg Prod.fst e)) () n
  unfold credOf
  rw [Pi.add_apply, h1, Finset.sum_apply, zero_add]
  refine Finset.sum_eq_zero fun j _ => ?_
  unfold sd
  split
  · exact h1 _ _
  · rfl

omit [FloatOps F] in
theorem launch_cred (c : Dev nD) : (Pipeline.launchCred O₀ c : sProp 𝕄)
    ⊢ iprop(cred (tallyAt (barCell c) () 3) ∗ bigSep Finset.univ (fun j : Dev nD => (cred (sd j c) : sProp 𝕄))) := by
  rw [Pipeline.launchCred_of_sum O₀ credOf dues_sum credOf_core c]
  unfold credOf
  rw [← Pipeline.cred_finsetSum]
  exact (cred_add _ _).1

/-! ## The tokens -/

/-- The landings: a unit on a barrier, an end of a copy on either side. -/
def landing : Dev nD × Fin 3 × Dev nD → GSem nD τ sig × ℕ × Dev nD
  | (c, 0, t) => (barCell t, 0, c)
  | (c, 1, t) => (sndCell c t, 0, 0)
  | (c, 2, t) => (rcvCell t c, 0, 0)

/-- The device and the kind of landing that a cell and its duty name. -/
def whence (x : GSem nD τ sig × ℕ × Dev nD) : Dev nD × Fin 3 × Dev nD :=
  match x.1.2 with
  | .reg _ => (x.2.2, 0, x.1.1.1)
  | .dma n => if n.val < 7 then (x.1.1.1, 1, Fin.ofNat 4 (n.val - 3)) else (Fin.ofNat 4 (n.val - 7), 2, x.1.1.1)

theorem landing_inj : Function.Injective landing :=
  Function.LeftInverse.injective (g := whence) (by decide)

def landings : Finset (GSem nD τ sig × ℕ × Dev nD) := Finset.univ.map ⟨landing, landing_inj⟩

omit [FloatOps F] in
theorem landings_toks : bigSep landings (fun x => (dutyTok ER x.1 x.2.1 x.2.2 : sProp 𝕄)) = bigSep Finset.univ (fun c : Dev nD => (toks c : sProp 𝕄)) := by
  unfold landings
  rw [bigSep_map, bigSep_univ_prod]
  refine bigSep_congr fun c _ => ?_
  rw [bigSep_univ_prod]
  exact bigSep_univ_eq_bigSepL [(0 : Fin 3), 1, 2] (by decide) (by decide) _

omit [FloatOps F] in
theorem cells_disjoint : Disjoint barCells ownCells := by
  rw [Finset.disjoint_left]
  intro g h1 h2
  obtain ⟨c, -, rfl⟩ := Finset.mem_map.mp h1
  obtain ⟨p, -, h⟩ := Finset.mem_map.mp h2
  have h' : osem p.2 = .reg barS := congrArg Prod.snd h
  unfold osem at h'
  cases h'

omit [FloatOps F] in
theorem bar_sep (Φ : GSem nD τ sig → sProp 𝕄) : bigSep barCells Φ = bigSep Finset.univ (fun c : Dev nD => Φ (barCell c)) := by
  unfold barCells
  rw [bigSep_map]
  rfl

omit [FloatOps F] in
theorem own_open : bigSep ownCells (fun g => (openTok ER g : sProp 𝕄))
    = bigSep Finset.univ (fun c : Dev nD => bigSep Finset.univ (fun k : Fin 7 => (openTok ER (ownCell c k) : sProp 𝕄))) := by
  unfold ownCells
  rw [bigSep_map, bigSep_univ_prod]
  rfl

/-! ## The launch -/

/-- The exchange's part of the launch. -/
abbrev exch : URounds (GSem nD τ sig) (Dev nD) := launchOf barCells ownCells landings

/-- The ghost state of the launch. -/
def u₀ : UU :=
  (initOf (Pipeline.cells (Pipeline.pin (pcfgs (F := F)) adm) cellOf_inj) (Pipeline.launchToks (Pipeline.pin (pcfgs (F := F)) adm) cellOf_inj), exch)

/-- All of the exchange's part, held for device 0. -/
def G (c : Dev nD) : sProp 𝕄 := if c = 0 then BI.own (ER exch) else iprop(emp)

omit [FloatOps F] in
theorem G_all : bigSep Finset.univ (G (F := F)) = BI.own (ER exch) := by
  rw [bigSep_univ_at _ (0 : Dev nD), bigSep_congr (s := Finset.univ.erase (0 : Dev nD)) (Ψ := fun _ => (BI.emp : sProp 𝕄))
      fun c hc => show G c = _ from if_neg (Finset.ne_of_mem_erase hc), BI.bigSep_emp_const, show G (F := F) 0 = BI.own (ER exch) from if_pos rfl]
  exact BI.equiv_iff.mp sep_emp

omit [FloatOps F] in
/-- The one semaphore outside the kernels is the barrier. -/
theorem sems_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem sem_bar : ∀ sm : SemLoc sig, sm.isScoped .tc = false → sm = .reg barS := by decide

/-- What a device has of its own at launch, beside the exchange. -/
def plain (c : Dev nD) : sProp 𝕄 :=
  iprop(StableHlo.held (c : Thread nD τ) (Pipeline.ucRefs τ sig) (Vat0 m c) ∗ (∃ r, prngReg c r) ∗ owesAny c (O₀ c)
    ∗ cred (tallyAt (barCell c) () 3) ∗ bigSep Finset.univ (fun j : Dev nD => (cred (sd j c) : sProp 𝕄)))

/-- What a device starts the program with, -/
def before (c : Dev nD) : sProp 𝕄 :=
  iprop(StableHlo.held (c : Thread nD τ) (Pipeline.ucRefs τ sig) (Vat0 m c) ∗ (∃ r, prngReg c r) ∗ atLaunch m c ∗ owesAny c (O₀ c))
/-- and what it ends with. -/
def after (c : Dev nD) : sProp 𝕄 :=
  iprop(StableHlo.held (c : Thread nD τ) (Pipeline.ucRefs τ sig) (Vat2 m c) ∗ semVal (barCell c) 0)

omit [FloatOps F] in
theorem plain_intro (c : Dev nD) :
    iprop(unscopedBufs c (fun b => m ((c : Thread nD τ).loc b)) ∗ unscopedSems0 c ∗ owes (c : Thread nD τ) (O₀ c) ∅ ∗ Pipeline.launchCred O₀ c
        ∗ prngReg c (ρ c) ∗ G c)
      ⊢ iprop(plain (F := F) m c ∗ (semVal (barCell c) 0 ∗ G c)) := by
  rw [show unscopedBufs c (fun b => m ((c : Thread nD τ).loc b)) = StableHlo.held (c : Thread nD τ) (Pipeline.ucRefs τ sig) (Vat0 m c) from
    Pipeline.unscopedBufs_held c (Vat0 m c), sems_bar]
  unfold plain owesAny
  iintro ⟨Hh, Hs, HO, Hc, Hp, HG⟩
  ihave Hc := (launch_cred (F := F) c) $$ Hc
  isplitr [Hs HG]
  · isplitl [Hh]; · iexact Hh
    isplitl [Hp]; · iexists (ρ c); iexact Hp
    isplitl [HO]; · iexists ∅; iexact HO
    iexact Hc
  isplitl [Hs]; · iexact Hs
  iexact HG

theorem before_intro (K : GSem nD τ sig → ℕ) (c : Dev nD) :
    iprop(records m K ∗ ((atPos ER (barCell c) 0 ∅ 0 ∗ bigSep Finset.univ (fun k : Fin 7 => (openTok ER (ownCell c k) : sProp 𝕄)) ∗ toks c) ∗ plain m c))
      ⊢ before m c := by
  unfold before plain atLaunch
  iintro ⟨#HR, ⟨Hb, Ho, Ht⟩, Hh, Hp, HO, Hc, Hd⟩
  isplitl [Hh]; · iexact Hh
  isplitl [Hp]; · iexact Hp
  isplitr [HO]
  · iexists K
    isplitr; · iexact HR
    isplitl [Ho]; · iexact Ho
    isplitl [Hb]; · iexact Hb
    isplitl [Ht]; · iexact Ht
    isplitl [Hc]; · iexact Hc
    iexact Hd
  iexact HO

/-- The launch: the records made, everything dealt out. -/
theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (before m) : sProp 𝕄) := by
  iintro ⟨H, -⟩
  ihave H := (show _ ⊢ bigSep Finset.univ (fun c : Dev nD => iprop(plain (F := F) m c ∗ (semVal (barCell c) 0 ∗ G c))) from
    bigSep_mono fun c _ => plain_intro m ρ c) $$ H
  ihave H := (Entails.of_eq (bigSep_sep' Finset.univ (plain (F := F) m) (fun c : Dev nD => iprop(semVal (barCell c) 0 ∗ G c)))) $$ H
  icases H with ⟨HP, H⟩
  ihave H := (Entails.of_eq (bigSep_sep' Finset.univ (fun c : Dev nD => (semVal (barCell c) 0 : sProp 𝕄)) G)) $$ H
  icases H with ⟨Hv, HG⟩
  ihave Hu := (Entails.of_eq (G_all (F := F))) $$ HG
  ihave Hv := (Entails.of_eq (bar_sep (fun g : GSem nD τ sig => (semVal g 0 : sProp 𝕄))).symm) $$ Hv
  imod (Rounds.fund_launch ER (rd m) cells_disjoint (fun g _ h => h) landings) $$ [Hv Hu] with ⟨%K, -, #Hinv, #Hr, Hat, Hopen, Htok⟩
  · isplitl [Hv]; · iexact Hv
    iexact Hu
  ihave Hat := (Entails.of_eq (bar_sep (fun g : GSem nD τ sig => (atPos ER g 0 ∅ 0 : sProp 𝕄)))) $$ Hat
  ihave Hopen := (Entails.of_eq (own_open (F := F))) $$ Hopen
  ihave Htok := (Entails.of_eq (landings_toks (F := F))) $$ Htok
  imodintro
  iapply (bigSep_with_persistent (R := records m K) fun c _ => before_intro m K c)
  isplitr
  · unfold records
    isplitr; · iexact Hinv
    iexact Hr
  rw [bigSep_sep', bigSep_sep', bigSep_sep']
  isplitr [HP]
  · isplitl [Hat]; · iexact Hat
    isplitl [Hopen]; · iexact Hopen
    iexact Htok
  iexact HP

/-! ## The run -/

theorem pre0 (c : Dev nD) : before m c ⊢ (reg0 m).pre c := by
  show _ ⊢ iprop(StableHlo.held (c.tc : Thread nD τ) (Pipeline.arrRefs (τ := τ) spec0) (Vat0 m c) ∗ (∃ r, prngReg c r)
    ∗ (StableHlo.held (c.tc : Thread nD τ) offBufs (Vat0 m c) ∗ emp) ∗ atLaunch m c ∗ ∃ Wd, owes (c : Thread nD τ) (0 + O₀ c) Wd)
  rw [zero_add]
  unfold before owesAny
  rw [StableHlo.held_sub_split (c : Thread nD τ) arr0_sub]
  iintro ⟨⟨Ha, Hr⟩, Hp, Hl, HO⟩
  isplitl [Ha]; · iexact Ha
  isplitl [Hp]; · iexact Hp
  isplitl [Hr]
  · isplitl [Hr]; · iexact Hr
    iempintro
  isplitl [Hl]; · iexact Hl
  iexact HO

theorem post0 (c : Dev nD) : (reg0 m).post c ⊢ (reg1 m).pre c := by
  show iprop(StableHlo.held (c.tc : Thread nD τ) (Pipeline.arrRefs (τ := τ) spec0) (Vat1 m c) ∗ (∃ r, prngReg c r)
      ∗ (StableHlo.held (c.tc : Thread nD τ) offBufs (Vat1 m c) ∗ emp) ∗ semVal (barCell c) 0 ∗ ∃ Wd, owes (c : Thread nD τ) (0 : CellTallies nD τ sig Unit) Wd)
    ⊢ iprop(StableHlo.held (c.tc : Thread nD τ) (Pipeline.arrRefs (τ := τ) spec1) (Vat1 m c) ∗ emp ∗ ((∃ r, prngReg c r) ∗ semVal (barCell c) 0)
      ∗ ∃ Wd, owes (c : Thread nD τ) (0 : CellTallies nD τ sig Unit) Wd)
  rw [arr1_eq, StableHlo.held_sub_split (c.tc : Thread nD τ) arr0_sub (Vat1 m c)]
  iintro ⟨Ha, Hp, ⟨Hr, -⟩, Hb, HO⟩
  isplitl [Ha Hr]
  · isplitl [Ha]; · iexact Ha
    iexact Hr
  isplitr; · iempintro
  isplitl [Hp Hb]
  · isplitl [Hp]; · iexact Hp
    iexact Hb
  iexact HO

theorem post1 (c : Dev nD) : (reg1 m).post c ⊢ iprop(after m c ∗ ∃ W, owes (c : Thread nD τ) (0 : CellTallies nD τ sig Unit) W) := by
  show iprop(StableHlo.held (c.tc : Thread nD τ) (Pipeline.arrRefs (τ := τ) spec1) (Vat2 m c) ∗ emp ∗ ((∃ r, prngReg c r) ∗ semVal (barCell c) 0)
      ∗ ∃ Wd, owes (c : Thread nD τ) (0 : CellTallies nD τ sig Unit) Wd) ⊢ _
  rw [arr1_eq]
  unfold after
  iintro ⟨Ha, -, ⟨-, Hb⟩, HO⟩
  isplitr [HO]
  · isplitl [Ha]; · iexact Ha
    iexact Hb
  iexact HO

/-- The program's parts. -/
def parts : List (Pipeline.Seg (pcfgs (F := F)) adm (pdats m) () defs₀ 𝒱₀ L lv) := [.region (reg0 m), .region (reg1 m)]

set_option backward.isDefEq.respectTransparency.types false in
/-- The run of the kernel program: it ends, faultless, with the argument as it was, the result as the second kernel leaves it and
every semaphore at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v2) = out m c) ∧ r.2.sem = fun _ => 0) :=
  Pipeline.θ_run_regions_kit_sems (pcfgs (F := F)) adm (pdats m) () cellOf_inj EP defs₀ 𝒱₀ L lv m ρ main (parts m)
    (fun c Q => by rw [main_segs adm (pdats m) () 𝒱₀ L lv (reg0 m) (reg1 m) c]; exact BI.Entails.refl _)
    (by simp only [parts, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := before m) (Tₙ := after m)
    (hch := ⟨pre0 m, post0 m, post1 m⟩)
    (hinit := launch m ρ)
    (QY := fun c s => (∀ b ∈ Pipeline.ucRefs τ sig, s.mem (c, b) = Vat2 m c b) ∧ s.sem (barCell c) = 0)
    (hfin := fun c s' => by
      unfold after StableHlo.held
      iintro ⟨⟨Hh, Hb⟩, HSI⟩
      icombine HSI Hb gives %hb
      ihave Hr := (pointsTo_read_all (Pipeline.ucRefs τ sig) (fun b => ((c : Thread nD τ).1, b)) (Vat2 m c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c =>
        ⟨((h c).1 (Proc.devRef .tc main_arg0) (Finset.mem_filter.mpr ⟨StableHlo.devRef_mem_tcRefs main_arg0, by decide⟩)).trans (Vat2_arg0 m c),
          ((h c).1 (Proc.devRef .tc main_v2) (Finset.mem_filter.mpr ⟨StableHlo.devRef_mem_tcRefs main_v2, by decide⟩)).trans (Vat2_v2 m c)⟩,
      sem_eq_zero hs fun c sm hsm => by
        obtain rfl := sem_bar sm hsm
        exact (h c).2⟩)

end Cert.Proof

end
-- ==== Proof.Scan.lean ====
/- The arithmetic of the two kernels at the ideal instance, one block at a time: the product of a block's rows by halves, and the
   products of a block's leading rows by doubling steps, in three levels of eight, eight and sixteen. -/
module

public import proofs.«01_k».proof.Proof.Gen.KernelIdeal.Skeleton
public import Idealize.ShloMosaic.Lib.Pointwise
public import Idealize.ShloMosaic.Lib.Pipeline.Value
public import Idealize.ShloMosaic.PureOps.Ideal

@[expose] public section

noncomputable section

namespace Cert.Proof

open Cert.KernelIdeal Cert.KernelIdeal.Gen
open Idealize.ShloMosaic

/-! ## Products of consecutive terms -/

section Products

variable {M : Type} [CommMonoid M]

/-- The product of the `w` terms that end at term `i` (fewer at the beginning). -/
def lastTerms (f : ℕ → M) (w i : ℕ) : M := ∏ k ∈ Finset.Ico (i + 1 - w) (i + 1), f k

/-- One term. -/
theorem lastTerms_one (f : ℕ → M) (i : ℕ) : lastTerms f 1 i = f i := by
  unfold lastTerms
  rw [Nat.add_sub_cancel, Nat.Ico_succ_singleton, Finset.prod_singleton]

/-- A doubling step. -/
theorem lastTerms_double (f : ℕ → M) (w i : ℕ) :
    lastTerms f w i * (if w ≤ i then lastTerms f w (i - w) else 1) = lastTerms f (w + w) i := by
  unfold lastTerms
  split
  · rename_i h
    rw [show i - w + 1 = i + 1 - w by omega, mul_comm, Finset.prod_Ico_consecutive _ (by omega) (by omega),
      show i + 1 - w - w = i + 1 - (w + w) by omega]
  · rename_i h
    rw [mul_one, show i + 1 - w = 0 by omega, show i + 1 - (w + w) = 0 by omega]

/-- Wide enough, it is the product of all terms up to `i`. -/
theorem lastTerms_all (f : ℕ → M) (w i : ℕ) (h : i < w) : lastTerms f w i = ∏ k ∈ Finset.range (i + 1), f k := by
  unfold lastTerms
  rw [show i + 1 - w = 0 by omega, Finset.range_eq_Ico]

/-- A product of products of `n` consecutive terms. -/
theorem prod_blocks (f : ℕ → M) (n b : ℕ) :
    ∏ q ∈ Finset.range b, ∏ k ∈ Finset.range n, f (n * q + k) = ∏ k ∈ Finset.range (n * b), f k := by
  induction b with
  | zero => simp
  | succ b ih => rw [Finset.prod_range_succ, ih, Nat.mul_succ, Finset.prod_range_add]

end Products

/-! ## The product of a block's rows, by halves -/

/-- The product of the rows of `v` at column `j`. -/
def rows {n : ℕ} (v : (⟨2, ![n, 1024]⟩ : Shape).Idx → EReal) (j : Fin 1024) : EReal := ∏ i : Fin n, v (ix2 i j)

theorem rows_mulf {n : ℕ} (v w : FVec Ideal (⟨2, ![n, 1024]⟩ : Shape) .f32) (j : Fin 1024) :
    rows (mulf v w) j = rows v j * rows w j := by
  unfold rows
  exact Finset.prod_mul_distrib

/-- The upper half times the lower half has the same product of rows. -/
theorem rows_halves {h n : ℕ} (hn : n = h + h) (v : FVec Ideal (⟨2, ![n, 1024]⟩ : Shape) .f32)
    (h0 : (⟨2, ![n, 1024]⟩ : Shape).Slices (![0, 0] : Fin 2 → ℕ) ⟨2, ![h, 1024]⟩)
    (h1 : (⟨2, ![n, 1024]⟩ : Shape).Slices (![h, 0] : Fin 2 → ℕ) ⟨2, ![h, 1024]⟩) (j : Fin 1024) :
    rows (mulf (extractStridedSlice ⟨2, ![h, 1024]⟩ ![0, 0] v h0) (extractStridedSlice ⟨2, ![h, 1024]⟩ ![h, 0] v h1)) j = rows v j := by
  subst hn
  rw [rows_mulf]
  unfold rows
  rw [Fin.prod_univ_add]
  congr 1
  · refine Finset.prod_congr rfl fun i _ => extractStridedSlice_apply _ _ _ _ _ fun a => ?_
    match a with
    | 0 => show i.val = 0 + i.val; omega
    | 1 => show j.val = 0 + j.val; omega
  · refine Finset.prod_congr rfl fun i _ => extractStridedSlice_apply _ _ _ _ _ fun a => ?_
    match a with
    | 0 => rfl
    | 1 => show j.val = 0 + j.val; omega

/-- The first kernel's update multiplies its products by the block's rows. -/
theorem rows_pay2 (x : FVec Ideal S1024x1024 .f32) (v : FVec Ideal S8x1024 .f32) (j : Fin 1024) :
    rows (k0_pay2 (F := Ideal) x v) j = rows v j * rows x j := by
  unfold k0_pay2
  simp only [shapeCast_self]
  rw [rows_mulf, rows_halves (by norm_num), rows_halves (by norm_num), rows_halves (by norm_num), rows_halves (by norm_num),
    rows_halves (by norm_num), rows_halves (by norm_num), rows_halves (by norm_num)]

/-- The total multiplies the products together. -/
theorem pay4_apply (v : FVec Ideal S8x1024 .f32) (j : Fin 1024) : k0_pay4 (F := Ideal) v (ix2 0 j) = rows v j := by
  have h : ∀ w : FVec Ideal S1x1024 .f32, w (ix2 0 j) = rows w j := fun w => by
    unfold rows; rw [Fin.prod_univ_one]
  rw [h (k0_pay4 (F := Ideal) v)]
  unfold k0_pay4
  simp only [shapeCast_self]
  rw [rows_halves (by norm_num), rows_halves (by norm_num), rows_halves (by norm_num)]

/-- The products start at one. -/
theorem rows_pay1 (j : Fin 1024) : rows (k0_pay1 (F := Ideal)) j = 1 := by
  unfold rows k0_pay1
  refine Finset.prod_eq_one fun i _ => ?_
  pointwise

/-! ## One doubling step of a running product -/

/-- The pattern of one is one. -/
theorem one_bits : (Scalar.ofBits .f32 0x3F800000#32 : Ideal .f32) = (1 : EReal) := by pointwise

/-- A product of vectors, entry by entry. -/
theorem mulf_at {s : Shape} (v w : FVec Ideal s .f32) (i : s.Idx) : mulf v w i = (v i * w i : EReal) := rfl

/-- A shift by `s` along the middle axis, ones coming in. -/
theorem shift_mid {A n s r : ℕ} (v : FVec Ideal (⟨3, ![A, n, 1024]⟩ : Shape) .f32)
    (h0 : (⟨3, ![A, n, 1024]⟩ : Shape).Slices (![0, 0, 0] : Fin 3 → ℕ) ⟨3, ![A, r, 1024]⟩)
    (hc : Shape.Concatenates [⟨3, ![A, s, 1024]⟩, ⟨3, ![A, r, 1024]⟩] (⟨3, ![A, n, 1024]⟩ : Shape) 1) (hn : n = s + r)
    (a : Fin A) (i : Fin n) (j : Fin 1024) :
    (concatenate (⟨3, ![A, n, 1024]⟩ : Shape) 1
      [⟨⟨3, ![A, s, 1024]⟩, broadcast ⟨3, ![A, s, 1024]⟩ (Scalar.ofBits .f32 0x3F800000#32 : Ideal .f32)⟩,
        ⟨⟨3, ![A, r, 1024]⟩, extractStridedSlice ⟨3, ![A, r, 1024]⟩ ![0, 0, 0] v h0⟩] hc) (ix3 a i j)
      = if s ≤ i.val then v (ix3 a ⟨i.val - s, by omega⟩ j) else (1 : EReal) := by
  split
  · rename_i h
    rw [concatenate_pair_apply_right (t := (⟨3, ![A, n, 1024]⟩ : Shape)) (s₁ := (⟨3, ![A, s, 1024]⟩ : Shape)) (s₂ := (⟨3, ![A, r, 1024]⟩ : Shape)) (1 : Fin 3) _ _ hc (ix3 a i j) rfl rfl (ix3 a ⟨i.val - s, by omega⟩ j)]
    · refine extractStridedSlice_apply _ _ _ _ _ fun b => ?_
      match b with
      | 0 => show a.val = 0 + a.val; omega
      | 1 => show i.val - s = 0 + (i.val - s); omega
      | 2 => show j.val = 0 + j.val; omega
    · intro b hb
      match b with
      | 0 => rfl
      | 1 => exact absurd rfl hb
      | 2 => rfl
    · show i.val - s + s = i.val
      omega
  · rename_i h
    rw [concatenate_pair_apply_left (t := (⟨3, ![A, n, 1024]⟩ : Shape)) (s₁ := (⟨3, ![A, s, 1024]⟩ : Shape)) (s₂ := (⟨3, ![A, r, 1024]⟩ : Shape)) (1 : Fin 3) _ _ hc (ix3 a i j) rfl (ix3 a ⟨i.val, by omega⟩ j)]
    · exact one_bits
    · intro b
      match b with
      | 0 => rfl
      | 1 => rfl
      | 2 => rfl

/-- A shift by `s` along the leading axis, ones coming in. -/
theorem shift_top {n s r : ℕ} (v : FVec Ideal (⟨3, ![n, 1, 1024]⟩ : Shape) .f32)
    (h0 : (⟨3, ![n, 1, 1024]⟩ : Shape).Slices (![0, 0, 0] : Fin 3 → ℕ) ⟨3, ![r, 1, 1024]⟩)
    (hc : Shape.Concatenates [⟨3, ![s, 1, 1024]⟩, ⟨3, ![r, 1, 1024]⟩] (⟨3, ![n, 1, 1024]⟩ : Shape) 0) (hn : n = s + r)
    (i : Fin n) (j : Fin 1024) :
    (concatenate (⟨3, ![n, 1, 1024]⟩ : Shape) 0
      [⟨⟨3, ![s, 1, 1024]⟩, broadcast ⟨3, ![s, 1, 1024]⟩ (Scalar.ofBits .f32 0x3F800000#32 : Ideal .f32)⟩,
        ⟨⟨3, ![r, 1, 1024]⟩, extractStridedSlice ⟨3, ![r, 1, 1024]⟩ ![0, 0, 0] v h0⟩] hc) (ix3 i 0 j)
      = if s ≤ i.val then v (ix3 ⟨i.val - s, by omega⟩ 0 j) else (1 : EReal) := by
  split
  · rename_i h
    rw [concatenate_pair_apply_right (t := (⟨3, ![n, 1, 1024]⟩ : Shape)) (s₁ := (⟨3, ![s, 1, 1024]⟩ : Shape)) (s₂ := (⟨3, ![r, 1, 1024]⟩ : Shape)) (0 : Fin 3) _ _ hc (ix3 i 0 j) rfl rfl (ix3 ⟨i.val - s, by omega⟩ 0 j)]
    · refine extractStridedSlice_apply _ _ _ _ _ fun b => ?_
      match b with
      | 0 => show i.val - s = 0 + (i.val - s); omega
      | 1 => rfl
      | 2 => show j.val = 0 + j.val; omega
    · intro b hb
      match b with
      | 0 => exact absurd rfl hb
      | 1 => rfl
      | 2 => rfl
    · show i.val - s + s = i.val
      omega
  · rename_i h
    rw [concatenate_pair_apply_left (t := (⟨3, ![n, 1, 1024]⟩ : Shape)) (s₁ := (⟨3, ![s, 1, 1024]⟩ : Shape)) (s₂ := (⟨3, ![r, 1, 1024]⟩ : Shape)) (0 : Fin 3) _ _ hc (ix3 i 0 j) rfl (ix3 ⟨i.val, by omega⟩ 0 j)]
    · exact one_bits
    · intro b
      match b with
      | 0 => rfl
      | 1 => rfl
      | 2 => rfl

/-- A doubling step along the middle axis. -/
theorem step_mid {A n s r : ℕ} {v : FVec Ideal (⟨3, ![A, n, 1024]⟩ : Shape) .f32} {j : Fin 1024} {f : ℕ → ℕ → EReal}
    (hv : ∀ (a : Fin A) (i : Fin n), v (ix3 a i j) = lastTerms (f a.val) s i.val)
    (h0 : (⟨3, ![A, n, 1024]⟩ : Shape).Slices (![0, 0, 0] : Fin 3 → ℕ) ⟨3, ![A, r, 1024]⟩)
    (hc : Shape.Concatenates [⟨3, ![A, s, 1024]⟩, ⟨3, ![A, r, 1024]⟩] (⟨3, ![A, n, 1024]⟩ : Shape) 1) (hn : n = s + r)
    (a : Fin A) (i : Fin n) :
    mulf v (concatenate (⟨3, ![A, n, 1024]⟩ : Shape) 1
      [⟨⟨3, ![A, s, 1024]⟩, broadcast ⟨3, ![A, s, 1024]⟩ (Scalar.ofBits .f32 0x3F800000#32 : Ideal .f32)⟩,
        ⟨⟨3, ![A, r, 1024]⟩, extractStridedSlice ⟨3, ![A, r, 1024]⟩ ![0, 0, 0] v h0⟩] hc) (ix3 a i j)
      = lastTerms (f a.val) (s + s) i.val := by
  rw [mulf_at, shift_mid v h0 hc hn, hv, hv, ← lastTerms_double]

/-- A doubling step along the leading axis. -/
theorem step_top {n s r : ℕ} {v : FVec Ideal (⟨3, ![n, 1, 1024]⟩ : Shape) .f32} {j : Fin 1024} {f : ℕ → EReal}
    (hv : ∀ i : Fin n, v (ix3 i 0 j) = lastTerms f s i.val)
    (h0 : (⟨3, ![n, 1, 1024]⟩ : Shape).Slices (![0, 0, 0] : Fin 3 → ℕ) ⟨3, ![r, 1, 1024]⟩)
    (hc : Shape.Concatenates [⟨3, ![s, 1, 1024]⟩, ⟨3, ![r, 1, 1024]⟩] (⟨3, ![n, 1, 1024]⟩ : Shape) 0) (hn : n = s + r)
    (i : Fin n) :
    mulf v (concatenate (⟨3, ![n, 1, 1024]⟩ : Shape) 0
      [⟨⟨3, ![s, 1, 1024]⟩, broadcast ⟨3, ![s, 1, 1024]⟩ (Scalar.ofBits .f32 0x3F800000#32 : Ideal .f32)⟩,
        ⟨⟨3, ![r, 1, 1024]⟩, extractStridedSlice ⟨3, ![r, 1, 1024]⟩ ![0, 0, 0] v h0⟩] hc) (ix3 i 0 j)
      = lastTerms f (s + s) i.val := by
  rw [mulf_at, shift_top v h0 hc hn, hv, hv, ← lastTerms_double]

/-! ## The three levels -/

/-- Row `k` of a block at column `j`; one past the block's end. -/
def rowOf (x : FVec Ideal S1024x1024 .f32) (j : Fin 1024) (k : ℕ) : EReal :=
  if h : k < 1024 then x (ix2 ⟨k, h⟩ j) else 1

/-- The product of rows `8 q … 8 q + 7`. -/
def eight (x : FVec Ideal S1024x1024 .f32) (j : Fin 1024) (q : ℕ) : EReal := ∏ k ∈ Finset.range 8, rowOf x j (8 * q + k)

/-- The product of rows `64 b … 64 b + 63`. -/
def sixtyFour (x : FVec Ideal S1024x1024 .f32) (j : Fin 1024) (b : ℕ) : EReal := ∏ q ∈ Finset.range 8, eight x j (8 * b + q)

/-- The first level: the leading products within each eight rows. -/
theorem level_one (x : FVec Ideal S1024x1024 .f32) (j : Fin 1024) (a : Fin 128) (i : Fin 8) :
    k1_pay4 (F := Ideal) x (ix3 a i j) = ∏ k ∈ Finset.range (i.val + 1), rowOf x j (8 * a.val + k) := by
  rw [← lastTerms_all (fun k => rowOf x j (8 * a.val + k)) 8 i.val i.isLt]
  unfold k1_pay4
  refine step_mid (s := 4) (r := 4) (f := fun a k => rowOf x j (8 * a + k)) ?_ _ _ rfl a i
  refine step_mid (s := 2) (r := 6) (f := fun a k => rowOf x j (8 * a + k)) ?_ _ _ rfl
  refine step_mid (s := 1) (r := 7) (f := fun a k => rowOf x j (8 * a + k)) ?_ _ _ rfl
  intro a i
  rw [lastTerms_one, rowOf, dif_pos (by omega)]
  pointwise
  simp only [Nat.mul_comm]

/-- The second level: the leading products within each eight of those. -/
theorem level_two (x : FVec Ideal S1024x1024 .f32) (j : Fin 1024) (b : Fin 16) (e : Fin 8) :
    k1_pay5 (F := Ideal) x (ix3 b e j) = ∏ q ∈ Finset.range (e.val + 1), eight x j (8 * b.val + q) := by
  rw [← lastTerms_all (fun q => eight x j (8 * b.val + q)) 8 e.val e.isLt]
  unfold k1_pay5
  refine step_mid (s := 4) (r := 4) (f := fun b q => eight x j (8 * b + q)) ?_ _ _ rfl b e
  refine step_mid (s := 2) (r := 6) (f := fun b q => eight x j (8 * b + q)) ?_ _ _ rfl
  refine step_mid (s := 1) (r := 7) (f := fun b q => eight x j (8 * b + q)) ?_ _ _ rfl
  intro b e
  rw [lastTerms_one, eight]
  refine Eq.trans ?_ (level_one x j ⟨8 * b.val + e.val, by omega⟩ 7)
  pointwise
  simp only [Nat.mul_comm]

/-- The third level's first three steps: the products of the last eight of those. -/
theorem level_three (x : FVec Ideal S1024x1024 .f32) (j : Fin 1024) (b : Fin 16) :
    k1_pay6 (F := Ideal) x (ix3 b 0 j) = lastTerms (sixtyFour x j) 8 b.val := by
  unfold k1_pay6
  refine step_top (s := 4) (r := 12) ?_ _ _ rfl b
  refine step_top (s := 2) (r := 14) ?_ _ _ rfl
  refine step_top (s := 1) (r := 15) ?_ _ _ rfl
  intro b
  rw [lastTerms_one, sixtyFour]
  refine Eq.trans ?_ (level_two x j b 7)
  refine extractStridedSlice_apply _ _ _ _ _ fun a => ?_
  match a with
  | 0 => show b.val = 0 + b.val; omega
  | 1 => rfl
  | 2 => show j.val = 0 + j.val; omega

/-- How the three levels and the running row meet in one entry of the result. -/
theorem levels_meet (r : FVec Ideal S128x8x1024 .f32) (t : FVec Ideal S16x8x1024 .f32) (u : FVec Ideal S16x1x1024 .f32)
    (w : FVec Ideal S1x1024 .f32) (k j : Fin 1024) :
    shapeCast S1024x1024 (mulf r (broadcastTo S128x8x1024 (mulf
        (shapeCast S128x1x1024 (mulf t (broadcastTo S16x8x1024 u broadcasts_S16x1x1024_S16x8x1024)) shapeCasts_S16x8x1024_S128x1x1024)
        (broadcastTo S128x1x1024 (shapeCast S1x1x1024 w shapeCasts_S1x1024_S1x1x1024) broadcasts_S1x1x1024_S128x1x1024))
        broadcasts_S128x1x1024_S128x8x1024)) shapeCasts_S128x8x1024_S1024x1024 (ix2 k j)
      = r (ix3 ⟨k.val / 8, by omega⟩ ⟨k.val % 8, by omega⟩ j)
        * (t (ix3 ⟨k.val / 8 / 8, by omega⟩ ⟨k.val / 8 % 8, by omega⟩ j) * u (ix3 ⟨k.val / 8 / 8, by omega⟩ 0 j) * w (ix2 0 j)) := by
  pointwise

/-- The terms before the one at `i`, read from the products that include the last term, one place back. -/
theorem prods_before {n : ℕ} {v : Fin n → EReal} {f : ℕ → EReal} (hv : ∀ i : Fin n, v i = ∏ k ∈ Finset.range (i.val + 1), f k) (i : Fin n) :
    (if 1 ≤ i.val then v ⟨i.val - 1, by omega⟩ else 1) = ∏ k ∈ Finset.range i.val, f k := by
  split
  · rename_i h
    rw [hv, Nat.sub_add_cancel h]
  · rename_i h
    rw [show i.val = 0 by omega, Finset.prod_range_zero]

/-- The three levels' products before row `k`, times the row's own eight, are the rows up to `k`. -/
theorem levels_product (f : ℕ → EReal) (w : EReal) (k : ℕ) :
    (∏ i ∈ Finset.range (k % 8 + 1), f (8 * (k / 8) + i))
        * ((∏ q ∈ Finset.range (k / 8 % 8), ∏ i ∈ Finset.range 8, f (8 * (8 * (k / 8 / 8) + q) + i))
          * (∏ b ∈ Finset.range (k / 8 / 8), ∏ q ∈ Finset.range 8, ∏ i ∈ Finset.range 8, f (8 * (8 * b + q) + i)) * w)
      = w * ∏ i ∈ Finset.range (k + 1), f i := by
  rw [prod_blocks (fun q => ∏ i ∈ Finset.range 8, f (8 * q + i)), mul_comm (∏ q ∈ Finset.range (k / 8 % 8), _),
    ← Finset.prod_range_add (fun q => ∏ i ∈ Finset.range 8, f (8 * q + i)), prod_blocks, ← mul_assoc, mul_comm _ w,
    mul_comm (∏ i ∈ Finset.range (k % 8 + 1), _), show 8 * (k / 8 / 8) + k / 8 % 8 = k / 8 by omega, ← Finset.prod_range_add,
    show 8 * (k / 8) + (k % 8 + 1) = k + 1 by omega]

/-- **A block's result.** Row `k` is the running row times the block's rows up to row `k`. -/
theorem block_apply (x : FVec Ideal S1024x1024 .f32) (w : FVec Ideal S1x1024 .f32) (k j : Fin 1024) :
    k1_pay1 (F := Ideal) (k1_pay4 x) (k1_pay5 x) (k1_pay6 x) w (ix2 k j)
      = w (ix2 0 j) * ∏ i ∈ Finset.range (k.val + 1), rowOf x j i := by
  unfold k1_pay1
  refine (levels_meet _ _ _ _ k j).trans ?_
  rw [level_one]
  refine (congrArg₂ (fun p q : EReal => _ * (p * q * w (ix2 0 j)))
    ((shift_mid (s := 1) (r := 7) _ slices_S16x8x1024_o0_0_0_S16x7x1024 concatenates_S16x1x1024_S16x7x1024_S16x8x1024_d1 rfl _ _ j).trans
      (prods_before (level_two x j ⟨k.val / 8 / 8, by omega⟩) ⟨k.val / 8 % 8, by omega⟩))
    ((shift_top (s := 1) (r := 15) _ slices_S16x1x1024_o0_0_0_S15x1x1024 concatenates_S1x1x1024_S15x1x1024_S16x1x1024_d0 rfl _ j).trans
      (prods_before (v := fun b : Fin 16 => _) (f := sixtyFour x j) (fun b => (step_top (s := 8) (r := 8) (level_three x j) _ _ rfl b).trans
        (lastTerms_all _ _ _ b.isLt)) ⟨k.val / 8 / 8, by omega⟩))).trans ?_
  exact levels_product (rowOf x j) (w (ix2 0 j)) k.val

/-- The running row after a block: times all of the block's rows. -/
theorem block_last (x : FVec Ideal S1024x1024 .f32) (w : FVec Ideal S1x1024 .f32) (j : Fin 1024) :
    k1_pay2 (F := Ideal) (k1_pay4 x) (k1_pay5 x) (k1_pay6 x) w (ix2 0 j) = w (ix2 0 j) * rows x j := by
  refine Eq.trans ?_ ((block_apply x w 1023 j).trans ?_)
  · unfold k1_pay2
    rw [shapeCast_self]
    exact extractStridedSlice_apply _ _ _ _ _ fun a => by
      match a with
      | 0 => rfl
      | 1 => show j.val = 0 + j.val; omega
  · refine congrArg (w (ix2 0 j) * ·) ?_
    show ∏ i ∈ Finset.range 1024, rowOf x j i = ∏ i : Fin 1024, x (ix2 i j)
    rw [← Fin.prod_univ_eq_prod_range]
    exact Finset.prod_congr rfl fun i _ => dif_pos i.isLt

end Cert.Proof

end
-- ==== Proof.Value.lean ====
/- The value of the run at the ideal instance: what each device's result holds, in terms of the rows of all devices' arguments. -/
module

public import proofs.«01_k».proof.Proof.Launch
public import proofs.«01_k».proof.Proof.Scan
public import Idealize.ShloMosaic.Lib.Pipeline.ValueKit

@[expose] public section

set_option maxRecDepth 16384

noncomputable section

namespace Cert.Proof

open Cert.KernelIdeal Cert.KernelIdeal.Gen
open Idealize.ShloMosaic
open Idealize.ShloMosaic.TcCoe

variable (m : (ℓ : Loc nD τ sig) → Buf (Elt Ideal) ℓ)

/-! ## The rows that a device holds -/

/-- Row `k` of device `c`'s argument at column `j`; one past the end. -/
def devRow (c : Dev nD) (j : Fin 1024) (k : ℕ) : EReal :=
  if h : k < 8192 then (m ((c : Thread nD τ).loc main_arg0) : FVec Ideal S8192x1024 .f32) (ix2 ⟨k, h⟩ j) else 1

theorem index0_0 : ∀ t : Fin grid0.N, win0_0.index t = ![t.val, 0] := by decide +kernel
theorem index1_0 : ∀ t : Fin grid1.N, win1_0.index t = ![t.val, 0] := by decide +kernel
theorem index1_1 : ∀ t : Fin grid1.N, win1_1.index t = ![0, 0] := by decide +kernel
theorem index1_2 : ∀ t : Fin grid1.N, win1_2.index t = ![t.val, 0] := by decide +kernel

/-- Row `i` of block `t` is row `1024 t + i` of the device, as the first kernel reads it -/
theorem xblk_apply (c : Dev nD) (t : Fin grid0.N) (i j : Fin 1024) : xblk m c t (ix2 i j) = devRow m c j (1024 * t.val + i.val) := by
  have hN : t.val < 8 := by have h := t.isLt; have hN : grid0.N = 8 := N_0; omega
  unfold devRow
  rw [dif_pos (by omega)]
  unfold xblk
  blk_simp
  refine congrArg (m ((c : Thread nD τ).loc main_arg0)) ?_
  blk_ext [index0_0 t]

/-- and as the second does. -/
theorem yblk_apply (c : Dev nD) (t : Fin grid1.N) (i j : Fin 1024) : yblk m c t (ix2 i j) = devRow m c j (1024 * t.val + i.val) := by
  have hN : t.val < 8 := by have h := t.isLt; have hN : grid1.N = 8 := N_1; omega
  unfold devRow
  rw [dif_pos (by omega)]
  unfold yblk
  blk_simp
  refine congrArg (m ((c : Thread nD τ).loc main_arg0)) ?_
  blk_ext [index1_0 t]

/-- The product of a block's rows. -/
theorem rows_of {x : FVec Ideal S1024x1024 .f32} {j : Fin 1024} {f : ℕ → EReal} {t : ℕ} (hx : ∀ i : Fin 1024, x (ix2 i j) = f (1024 * t + i.val)) :
    rows x j = ∏ i ∈ Finset.range 1024, f (1024 * t + i) := by
  unfold rows
  rw [← Fin.prod_univ_eq_prod_range]
  exact Finset.prod_congr rfl fun i _ => hx i

/-! ## The first kernel -/

/-- The running products after `n` blocks. -/
theorem rows_accAt (c : Dev nD) (j : Fin 1024) (n : ℕ) (hn : n ≤ 8) : rows (accAt m c n) j = ∏ k ∈ Finset.range (1024 * n), devRow m c j k := by
  induction n with
  | zero => exact rows_pay1 j
  | succ n ih =>
    have h : n < grid0.N := by have hN : grid0.N = 8 := N_0; omega
    rw [show accAt m c (n + 1) = k0_pay2 (xblk m c ⟨n, h⟩) (accAt m c n) from dif_pos h, rows_pay2, ih (by omega),
      rows_of fun i => xblk_apply m c ⟨n, h⟩ i j, Nat.mul_succ, Finset.prod_range_add]

/-- A device's total is the product of its rows. -/
theorem tot_apply (c : Dev nD) (j : Fin 1024) : tot m c (ix2 0 j) = ∏ k ∈ Finset.range 8192, devRow m c j k :=
  (pay4_apply _ j).trans (rows_accAt m c j 8 le_rfl)

theorem onesRow_apply (j : Fin 1024) : onesRow (F := Ideal) (ix2 0 j) = (1 : EReal) := by
  unfold onesRow k0_pay5
  pointwise

/-- The total of device `d`; one past the last. -/
def total (j : Fin 1024) (d : ℕ) : EReal := if h : d < 4 then ∏ k ∈ Finset.range 8192, devRow m ⟨d, h⟩ j k else 1

/-- What a slot holds. -/
theorem slotVal_apply (c d : Dev nD) (j : Fin 1024) : slotVal m c d (ix2 0 j) = if d.val < c.val then total m j d.val else (1 : EReal) := by
  unfold slotVal
  by_cases h : d < c
  · rw [if_pos h, if_pos (show d.val < c.val from h), tot_apply, total, dif_pos (show d.val < 4 from d.isLt)]
  · rw [if_neg h, if_neg (show ¬ d.val < c.val from h), onesRow_apply]

/-- The row that the first kernel leaves is the product of the earlier devices' totals. -/
theorem carry_apply (c : Dev nD) (j : Fin 1024) : carry m c (ix2 0 j) = ∏ d ∈ Finset.range c.val, total m j d := by
  unfold carry
  rw [mulf_at, mulf_at, slotVal_apply, slotVal_apply, slotVal_apply]
  rw [show ((0 : Dev nD)).val = 0 from rfl, show ((1 : Dev nD)).val = 1 from rfl, show ((2 : Dev nD)).val = 2 from rfl]
  generalize total m j = T
  have hc : c.val < 4 := c.isLt
  obtain ⟨c, _⟩ := c
  interval_cases c <;> simp [Finset.prod_range_succ]

theorem mid_eq (c : Dev nD) : mid m c = carry m c := by
  refine (dat0 m c).arrAt_eq_of_after_last 1 t0_7 (by decide +kernel) _ fun j => ?_
  blk_simp
  rfl

/-! ## The second kernel -/

theorem first_apply (c : Dev nD) (t : Fin grid1.N) (j : Fin 1024) : first m c t (ix2 0 j) = carry m c (ix2 0 j) := by
  unfold first
  rw [mid_eq]
  blk_simp
  refine congrArg (carry m c) ?_
  blk_ext [index1_1 t]

/-- The row carried into block `n`: the earlier devices' rows and the earlier blocks' rows. -/
theorem rowAt_apply (c : Dev nD) (j : Fin 1024) (n : ℕ) (hn : n ≤ 8) :
    rowAt m c n (ix2 0 j) = (∏ d ∈ Finset.range c.val, total m j d) * ∏ k ∈ Finset.range (1024 * n), devRow m c j k := by
  induction n with
  | zero =>
    rw [Nat.mul_zero, Finset.prod_range_zero, mul_one, ← carry_apply, ← first_apply m c t1_0]
    show k1_pay3 (first m c t1_0) (ix2 0 j) = _
    unfold k1_pay3
    simp only [shapeCast_self]
  | succ n ih =>
    have h : n < grid1.N := by have hN : grid1.N = 8 := N_1; omega
    rw [show rowAt m c (n + 1) = lastRow (yblk m c ⟨n, h⟩) (rowAt m c n) from dif_pos h]
    unfold lastRow
    rw [block_last, ih (by omega), rows_of fun i => yblk_apply m c ⟨n, h⟩ i j, Nat.mul_succ, Finset.prod_range_add, mul_assoc]

/-- Row `i` of block `t` of the result: every row before it, on all devices, and itself. -/
theorem scanned_apply (c : Dev nD) (t : Fin grid1.N) (i j : Fin 1024) : scanned (yblk m c t) (rowAt m c t.val) (ix2 i j)
    = (∏ d ∈ Finset.range c.val, total m j d) * ∏ k ∈ Finset.range (1024 * t.val + i.val + 1), devRow m c j k := by
  have hN : t.val < 8 := by have h := t.isLt; have hN : grid1.N = 8 := N_1; omega
  unfold scanned
  rw [block_apply, rowAt_apply m c j t.val (by omega), add_assoc, Finset.prod_range_add _ (1024 * t.val), mul_assoc]
  refine congrArg (fun p : EReal => _ * (_ * p)) (Finset.prod_congr rfl fun k hk => ?_)
  have hk := Finset.mem_range.mp hk
  rw [rowOf, dif_pos (by omega)]
  exact yblk_apply m c t ⟨k, by omega⟩ j

/-- The result of device `c`, entry by entry. -/
def resultOf (c : Dev nD) : FVec Ideal S8192x1024 .f32 := fun i =>
  (∏ d ∈ Finset.range c.val, total m (i 1) d) * ∏ k ∈ Finset.range ((i 0).val + 1), devRow m c (i 1) k

theorem out_eq (c : Dev nD) : out m c = resultOf m c := by
  refine (dat1 m c).arrAt_eq_of_covers 2 _ (by decide +kernel) fun t hf y => ?_
  blk_simp
  have h0 : ((win1_2.blk t).view.emb y 0).val = 1024 * t.val + (y 0).val := by
    blk_simp [index1_2 t]
    simp [Nat.mul_comm]
  have h1 : (win1_2.blk t).view.emb y 1 = (y 1 : Fin 1024) := Fin.ext (by blk_simp [index1_2 t])
  refine ((congrArg (scanned (yblk m c t) (rowAt m c t.val)) (eq_ix2 y)).trans (scanned_apply m c t (y 0) (y 1))).trans ?_
  unfold resultOf
  rw [h0, h1]

end Cert.Proof

end
-- ==== Proof.Ref.lean ====
/- The reference's run: its host loop carries the running product of the rows, one row per trip, and writes each prefix product
   into its row of the result. `run_ref`: every execution ends with the argument unchanged, every counter zero, and row `r` of the
   result the product of the argument's rows `0 … r`. -/
module

public import proofs.«01_k».proof.Proof.Gen.ReferenceIdeal
public import Idealize.ShloMosaic.Lib.StableHlo.RunLoop
public import Idealize.ShloMosaic.Lib.StableHlo.RunClose
public import Idealize.ShloMosaic.Lib.Quiescent
public import Idealize.ShloMosaic.Lib.Scf.ExitTest
public import Idealize.ShloMosaic.Lib.DynamicIndex
public import Idealize.ShloMosaic.Lib.Pipeline.Value
public import Idealize.ShloMosaic.Lib.Pointwise
public import Idealize.ShloMosaic.PureOps.Ideal
public import Idealize.ShloMosaic.Adequacy
public import Idealize.ShloMosaic.Init

@[expose] public section

noncomputable section

namespace Cert.Proof.Ref

open Cert.ReferenceIdeal Cert.ReferenceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (sub_ucRefs ucRefs)

variable {F : FTy → Type} [FloatOps F]

/-- The operations before the loop: the ones, the zeros, the counter, and the copies into the carried buffers. -/
abbrev preOps : List (HloOp τ sig (Elt F)) := [
  StableHlo.nullary main_cst (constant S_ .f32 0x3F800000#32),
  StableHlo.unary main_cst main_v0 (broadcastInDim S1024 ![] bcast_S_S1024 : (⟨S_, .f32⟩ : BufTy).Contents (Elt F) → (⟨S1024, .f32⟩ : BufTy).Contents (Elt F)),
  StableHlo.nullary main_cst_0 (constant S_ .f32 0x00000000#32),
  StableHlo.unary main_cst_0 main_v1 (broadcastInDim S32768x1024 ![] bcast_S_S32768x1024 : (⟨S_, .f32⟩ : BufTy).Contents (Elt F) → (⟨S32768x1024, .f32⟩ : BufTy).Contents (Elt F)),
  StableHlo.nullary main_c (constantI S_ 32 0#32),
  StableHlo.unary main_arg0 main_v2_0 id,
  StableHlo.unary main_c main_v2_1 id,
  StableHlo.unary main_v0 main_v2_2 id,
  StableHlo.unary main_v1 main_v2_3 id]

/-- The operations of the loop's condition. -/
abbrev condOps : List (HloOp τ sig (Elt F)) := [
  StableHlo.nullary main_while0c_c_4 (constantI S_ 32 32768#32),
  StableHlo.binary main_v2_1 main_while0c_c_4 main_while0c_v3 (cmpi .slt : (⟨S_, .i32⟩ : BufTy).Contents (Elt F) → (⟨S_, .i32⟩ : BufTy).Contents (Elt F) → (⟨S_, .i1⟩ : BufTy).Contents (Elt F))]

/-- The operations of the loop's body. -/
abbrev bodyOps : List (HloOp τ sig (Elt F)) := [
  StableHlo.TRef.nullary main_while0b_call0.c (constantI S_ 32 0#32),
  StableHlo.TRef.unaryIndexed (.of main_v2_0 : StableHlo.TRef sig ⟨S32768x1024, .f32⟩) ![(.of main_v2_1 : StableHlo.TRef sig ⟨S_, .i32⟩), main_while0b_call0.c] main_while0b_call0.v0 (fun x i => Host.dynamicSlice S1x1024 x (fun k => (i k (Shape.Idx.first h_S_)).toInt) sliceFits_S32768x1024_S1x1024),
  StableHlo.TRef.reshape main_while0b_call0.v0 main_while0b_call0.v1 (rfl : (.f32 : EltTy) = .f32) shapeCasts_S1x1024_S1024,
  StableHlo.binary main_v2_2 main_while0b_v3 main_while0b_v4 (mulf : (⟨S1024, .f32⟩ : BufTy).Contents (Elt F) → (⟨S1024, .f32⟩ : BufTy).Contents (Elt F) → (⟨S1024, .f32⟩ : BufTy).Contents (Elt F)),
  StableHlo.TRef.unary (.of main_while0b_v4 : StableHlo.TRef sig ⟨S1024, .f32⟩) main_while0b_call1.v0 (broadcastInDim S1x1024 ![1] bcast_S1024_S1x1024_1),
  StableHlo.TRef.nullary main_while0b_call1.c (constantI S_ 32 0#32),
  StableHlo.TRef.binaryIndexed (.of main_v2_3 : StableHlo.TRef sig ⟨S32768x1024, .f32⟩) main_while0b_call1.v0 ![(.of main_v2_1 : StableHlo.TRef sig ⟨S_, .i32⟩), main_while0b_call1.c] main_while0b_call1.v1 (fun x u i => Host.dynamicUpdateSlice x u (fun k => (i k (Shape.Idx.first h_S_)).toInt) updateFits_S32768x1024_S1x1024),
  StableHlo.nullary main_while0b_c_4 (constantI S_ 32 1#32),
  StableHlo.binary main_v2_1 main_while0b_c_4 main_while0b_v6 (addi : (⟨S_, .i32⟩ : BufTy).Contents (Elt F) → (⟨S_, .i32⟩ : BufTy).Contents (Elt F) → (⟨S_, .i32⟩ : BufTy).Contents (Elt F)),
  StableHlo.unary main_while0b_v6 main_v2_1 id,
  StableHlo.unary main_while0b_v4 main_v2_2 id,
  StableHlo.unary main_while0b_v5 main_v2_3 id]

/-- The program is the stretch before the loop, then the loop. -/
theorem main_items (c : Dev nD) : main (F := F) c
    = Pipeline.chain (([preOps].map fun ops => (StableHlo.seq ops : Prog _ PUnit)) ++ HostLoop.enter 0 :: ([] : List (List (HloOp τ sig (Elt F)))).map fun ops => (StableHlo.seq ops : Prog _ PUnit)) :=
  rfl

/-- The loop's body is one stretch. -/
theorem body_items : main_while0_body (F := F) = Pipeline.chain ([bodyOps].map fun ops => (StableHlo.seq ops : Prog _ PUnit)) := rfl

/-- The operations before the loop touch the program's own buffers only. -/
theorem pre_sub : (preOps (F := F)).Forall fun op => op.bufs ⊆ tcRefs τ sig :=
  ⟨nullary_bufs_sub .., unary_bufs_sub .., nullary_bufs_sub .., unary_bufs_sub .., nullary_bufs_sub .., unary_bufs_sub ..,
    unary_bufs_sub .., unary_bufs_sub .., unary_bufs_sub ..⟩

/-- So do the operations of the loop's body. -/
theorem body_sub : (bodyOps (F := F)).Forall fun op => op.bufs ⊆ tcRefs τ sig :=
  ⟨nullary_bufs_sub .., unaryIndexed_bufs_sub .., reshape_bufs_sub .., binary_bufs_sub .., unary_bufs_sub .., nullary_bufs_sub ..,
    binaryIndexed_bufs_sub .., nullary_bufs_sub .., binary_bufs_sub .., unary_bufs_sub .., unary_bufs_sub .., unary_bufs_sub ..⟩

/-- The start of row `k`: `k` on the first axis, zero on the second. -/
abbrev startAt (n : (⟨S_, .i32⟩ : BufTy).Contents (Elt F)) : Fin 2 → Int :=
  fun k => ((![n, constantI S_ 32 0#32] : Fin 2 → (⟨S_, .i32⟩ : BufTy).Contents (Elt F)) k (Shape.Idx.first h_S_)).toInt

/-- The running product after a trip that found the array `x`, the counter `n` and the product `p`. -/
abbrev nextProd (x : (⟨S32768x1024, .f32⟩ : BufTy).Contents (Elt F)) (n : (⟨S_, .i32⟩ : BufTy).Contents (Elt F))
    (p : (⟨S1024, .f32⟩ : BufTy).Contents (Elt F)) : (⟨S1024, .f32⟩ : BufTy).Contents (Elt F) :=
  mulf p (shapeCast S1024 (Host.dynamicSlice S1x1024 x (startAt n) sliceFits_S32768x1024_S1x1024) shapeCasts_S1x1024_S1024)

/-- The result after a trip that found it at `y`: row `n` replaced by the product `p`. -/
abbrev nextOut (y : (⟨S32768x1024, .f32⟩ : BufTy).Contents (Elt F)) (n : (⟨S_, .i32⟩ : BufTy).Contents (Elt F))
    (p : (⟨S1024, .f32⟩ : BufTy).Contents (Elt F)) : (⟨S32768x1024, .f32⟩ : BufTy).Contents (Elt F) :=
  Host.dynamicUpdateSlice y (broadcastInDim S1x1024 ![1] bcast_S1024_S1x1024_1 p) (startAt n) updateFits_S32768x1024_S1x1024

variable (V : Valuation τ sig (Elt F))

theorem body_arg : after bodyOps V (Proc.devRef .tc main_arg0) = V (Proc.devRef .tc main_arg0) := by
  after_results_simp_entrywise

theorem body_x : after bodyOps V (Proc.devRef .tc main_v2_0) = V (Proc.devRef .tc main_v2_0) := by
  after_results_simp_entrywise

theorem body_n : after bodyOps V (Proc.devRef .tc main_v2_1)
    = addi (V (Proc.devRef .tc main_v2_1) : (⟨S_, .i32⟩ : BufTy).Contents (Elt F)) (constantI S_ 32 1#32) := by
  after_results_simp_entrywise
  rfl

theorem body_p : after bodyOps V (Proc.devRef .tc main_v2_2)
    = nextProd (V (Proc.devRef .tc main_v2_0)) (V (Proc.devRef .tc main_v2_1)) (V (Proc.devRef .tc main_v2_2)) := by
  after_results_simp_entrywise
  rfl

theorem body_y : after bodyOps V (Proc.devRef .tc main_v2_3)
    = nextOut (V (Proc.devRef .tc main_v2_3)) (V (Proc.devRef .tc main_v2_1))
        (nextProd (V (Proc.devRef .tc main_v2_0)) (V (Proc.devRef .tc main_v2_1)) (V (Proc.devRef .tc main_v2_2))) := by
  after_results_simp_entrywise
  rfl

/-- The condition's operations write none of the buffers that the loop carries, nor the argument. -/
theorem cond_keeps (r : Ref sig .tc) (h1 : r ≠ main_while0c_c_4) (h2 : r ≠ main_while0c_v3) :
    after condOps V (Proc.devRef .tc r) = V (Proc.devRef .tc r) := by
  rw [after_cons, after_cons, after_nil, binary_result_ne _ _ _ _ _ _ _ _ h2, nullary_result_ne _ _ _ _ h1]

theorem pre_arg : after preOps V (Proc.devRef .tc main_arg0) = V (Proc.devRef .tc main_arg0) := by
  after_results_simp_entrywise

theorem pre_x : after preOps V (Proc.devRef .tc main_v2_0) = V (Proc.devRef .tc main_arg0) := by
  after_results_simp_entrywise
  rfl

theorem pre_n : after preOps V (Proc.devRef .tc main_v2_1) = (constantI S_ 32 0#32 : (⟨S_, .i32⟩ : BufTy).Contents (Elt F)) := by
  after_results_simp_entrywise
  rfl

theorem pre_p : after preOps V (Proc.devRef .tc main_v2_2)
    = (broadcastInDim S1024 ![] bcast_S_S1024 (constant S_ .f32 0x3F800000#32) : (⟨S1024, .f32⟩ : BufTy).Contents (Elt F)) := by
  after_results_simp_entrywise
  rfl

/-! ## The values at the ideal instance -/

/-- The element of `x` at row `k` and column `j`; one for a row past the end. -/
def at' (x : (⟨S32768x1024, .f32⟩ : BufTy).Contents (Elt Ideal)) (k : ℕ) (j : Fin 1024) : EReal :=
  if h : k < 32768 then x (ix2 ⟨k, h⟩ j) else 1

/-- The product of the first `n` rows of `x` at column `j`. -/
def prodRows (x : (⟨S32768x1024, .f32⟩ : BufTy).Contents (Elt Ideal)) (n : ℕ) (j : Fin 1024) : EReal :=
  ∏ k ∈ Finset.range n, at' x k j

/-- The loop counter before trip `k`. -/
abbrev word (k : ℕ) : (⟨S_, .i32⟩ : BufTy).Contents (Elt Ideal) := fun _ => BitVec.ofNat 32 k

theorem startAt_word (k : ℕ) (hk : k < 32768) (a : Fin 2) : startAt (word k) a = ((![k, 0] : Fin 2 → ℕ) a : Int) := by
  match a with
  | 0 => exact toInt_ofNat_of_lt (by omega)
  | 1 => rfl

theorem row_slices (k : ℕ) (hk : k < 32768) : S32768x1024.Slices (![k, 0] : Fin 2 → ℕ) S1x1024 :=
  ⟨rfl, fun a => by
    match a with
    | 0 => show k + 1 ≤ 32768; omega
    | 1 => show 0 + 1024 ≤ 1024; omega⟩

/-- A trip at counter `k` multiplies the running product by row `k`. -/
theorem nextProd_apply (x : (⟨S32768x1024, .f32⟩ : BufTy).Contents (Elt Ideal)) (p : (⟨S1024, .f32⟩ : BufTy).Contents (Elt Ideal))
    (k : ℕ) (hk : k < 32768) (j : Fin 1024) :
    nextProd x (word k) p (ix1 j) = (p (ix1 j) : EReal) * x (ix2 ⟨k, hk⟩ j) := by
  unfold nextProd
  rw [Host.dynamicSlice_eq_extractStridedSlice S1x1024 x (startAt (word k)) ![k, 0] _ (row_slices k hk) (startAt_word k hk)]
  pointwise

/-- A trip at counter `k` replaces row `k` of the result by the product. -/
theorem nextOut_apply (y : (⟨S32768x1024, .f32⟩ : BufTy).Contents (Elt Ideal)) (p : (⟨S1024, .f32⟩ : BufTy).Contents (Elt Ideal))
    (k : ℕ) (hk : k < 32768) (r : Fin 32768) (j : Fin 1024) :
    nextOut y (word k) p (ix2 r j) = if r.val = k then p (ix1 j) else y (ix2 r j) := by
  unfold nextOut
  rw [Host.dynamicUpdateSlice_eq_updateSlice y _ (startAt (word k)) _ ![k, 0] (fun a => by
    rw [startAt_word k hk a]
    match a with
    | 0 => show (min (max (k : ℤ) 0) ((32767 : ℕ) : ℤ)).toNat = k; omega
    | 1 => show (min (max ((0 : ℕ) : ℤ) 0) ((0 : ℕ) : ℤ)).toNat = 0; omega) (row_slices k hk)]
  pointwise
  by_cases h : r.val = k
  · rw [dif_pos ⟨by omega, by omega⟩, if_pos h]
  · rw [dif_neg (by omega), if_neg h]

/-- What the buffers hold before trip `k` of a launch whose argument is `x`: the counter, the product of the first `k` rows, and
    in each of the first `k` rows of the result the product up to that row. -/
structure Trip (x : (⟨S32768x1024, .f32⟩ : BufTy).Contents (Elt Ideal)) (k : ℕ) (W : Valuation τ sig (Elt Ideal)) : Prop where
  arg : W (Proc.devRef .tc main_arg0) = x
  src : W (Proc.devRef .tc main_v2_0) = x
  ctr : W (Proc.devRef .tc main_v2_1) = word k
  prod : ∀ j : Fin 1024, (W (Proc.devRef .tc main_v2_2) : (⟨S1024, .f32⟩ : BufTy).Contents (Elt Ideal)) (ix1 j) = prodRows x k j
  done : ∀ (r : Fin 32768) (j : Fin 1024), r.val < k →
    (W (Proc.devRef .tc main_v2_3) : (⟨S32768x1024, .f32⟩ : BufTy).Contents (Elt Ideal)) (ix2 r j) = prodRows x (r.val + 1) j

/-- The stretch before the loop leaves the state of trip zero. -/
theorem trip_zero (V : Valuation τ sig (Elt Ideal)) : Trip (V (Proc.devRef .tc main_arg0)) 0 (after preOps V) where
  arg := pre_arg V
  src := pre_x V
  ctr := pre_n V
  prod j := by
    rw [pre_p V]
    pointwise
    rfl
  done r j h := absurd h (Nat.not_lt_zero _)

/-- One trip: from the state before trip `k` to the state before trip `k + 1`. -/
theorem trip_succ {x : (⟨S32768x1024, .f32⟩ : BufTy).Contents (Elt Ideal)} {k : ℕ} (hk : k < 32768) {W : Valuation τ sig (Elt Ideal)}
    (h : Trip x k W) : Trip x (k + 1) (after bodyOps (after condOps W)) := by
  have hx : after condOps W (Proc.devRef .tc main_v2_0) = x := (cond_keeps W _ (by decide) (by decide)).trans h.src
  have hn : after condOps W (Proc.devRef .tc main_v2_1) = word k := (cond_keeps W _ (by decide) (by decide)).trans h.ctr
  have hp : after condOps W (Proc.devRef .tc main_v2_2) = W (Proc.devRef .tc main_v2_2) := cond_keeps W _ (by decide) (by decide)
  have hy : after condOps W (Proc.devRef .tc main_v2_3) = W (Proc.devRef .tc main_v2_3) := cond_keeps W _ (by decide) (by decide)
  have hprod : ∀ j : Fin 1024, nextProd x (word k) (W (Proc.devRef .tc main_v2_2)) (ix1 j) = prodRows x (k + 1) j := fun j => by
    rw [nextProd_apply x _ k hk j, h.prod j, prodRows, prodRows, Finset.prod_range_succ, at', dif_pos hk]
  refine ⟨?_, ?_, ?_, fun j => ?_, fun r j hr => ?_⟩
  · rw [body_arg, cond_keeps W _ (by decide) (by decide), h.arg]
  · rw [body_x, hx]
  · rw [body_n, hn]
    funext i
    show BitVec.ofNat 32 k + 1#32 = BitVec.ofNat 32 (k + 1)
    exact BitVec.ofNat_add_ofNat k 1
  · rw [body_p, hx, hn, hp]
    exact hprod j
  · rw [body_y, hx, hn, hp, hy, nextOut_apply _ _ k hk r j]
    split
    · rename_i e
      rw [hprod j, e]
    · rename_i e
      exact h.done r j (by omega)

variable (m : (ℓ : Loc nD τ sig) → Buf (Elt Ideal) ℓ) (ρ : Dev nD → PrngReg)

/-- The argument of the launch. -/
abbrev argOf (c : Dev nD) : (⟨S32768x1024, .f32⟩ : BufTy).Contents (Elt Ideal) := m ((c.tc : Thread nD τ).loc main_arg0)

/-- The state before every trip. -/
theorem trips (c : Dev nD) : ∀ k, k ≤ 32768 → Trip (argOf m c) k (atTrip condOps [bodyOps] (entryContents [preOps] m) k c)
  | 0, _ => trip_zero (launchContents m c)
  | k + 1, h => trip_succ (by omega) (trips c k (by omega))

/-- The loop's condition holds exactly before the first 32768 trips. -/
theorem cond_spec : CondSpec pcfgs defs₀ loops main_while0_cond condOps [bodyOps] (entryContents [preOps] m) 32768 := by
  intro k hk c bd
  have hctr := (trips m c k hk).ctr
  unfold main_while0_cond
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  unfold HostLoop.elt
  rw [wp_ret]; imodintro
  isplitr
  · ipureintro
    show Iff (IntOp.cmpi .slt (HloOp.result _ (atTrip condOps [bodyOps] (entryContents [preOps] m) k c) main_v2_1 HostLoop.idx0)
        (HloOp.result _ (atTrip condOps [bodyOps] (entryContents [preOps] m) k c) main_while0c_c_4 HostLoop.idx0) = 1#1) (k < 32768)
    rw [StableHlo.nullary_result_ne _ _ _ _ (by decide), StableHlo.nullary_result, hctr]
    have e := Scf.cmpi_slt_iv_ub_iff main_while0_ok (k := k) hk
    rw [show Scf.iv 0#32 1#32 k = BitVec.ofNat 32 k from by unfold Scf.iv; rw [BitVec.mul_one, BitVec.zero_add]] at e
    exact e
  isplitl [Hb]; · iexact Hb
  rw [after_cons, after_cons, after_nil]; iexact Hh

/-- The reference's run: the argument and the counters are as they were, and row `r` of the result is the product of the
    argument's rows up to `r`. -/
theorem run_ref : θ_run defs (onTc (τ := τ) (main (F := Ideal))) ⟨m, fun _ => 0, ρ⟩
    (fun r => (∀ c : Dev nD, r.2.mem ((c.tc : Thread nD τ).loc main_arg0) = m ((c.tc : Thread nD τ).loc main_arg0)
        ∧ ∀ (k : Fin 32768) (j : Fin 1024),
            (r.2.mem ((c.tc : Thread nD τ).loc main_v2_3) : (⟨S32768x1024, .f32⟩ : BufTy).Contents (Elt Ideal)) (ix2 k j)
              = prodRows (argOf m c) (k.val + 1) j)
      ∧ r.2.sem = fun _ => 0) := by
  have h := run_loop (F := Ideal) pcfgs defs₀ loops main 0 main_while0_cond main_while0_body rfl [preOps] [bodyOps] [] condOps
    (.cons pre_sub .nil) (.cons body_sub .nil) .nil main_items body_items 32768 m ρ (cond_spec m)
  refine h.mono (fun r hr => ⟨fun c => ⟨?_, fun k j => ?_⟩, ?_⟩)
  · rw [hr c main_arg0 rfl]
    exact (cond_keeps _ _ (by decide) (by decide)).trans (trips m c 32768 (le_refl _)).arg
  · rw [hr c main_v2_3 rfl]
    refine (congrFun (cond_keeps _ _ (by decide) (by decide)) _).trans ((trips m c 32768 (le_refl _)).done k j k.isLt)
  · exact sem_eq_zero_of_no_sems (by decide) _

end Cert.Proof.Ref

end
-- ==== Proof.lean ====
/- The claims about the kernel and its reference: both run, end with their arguments as they were and every semaphore counter at zero,
   and over the extended reals each device's result is its block of the reference's result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Value
public import proofs.«01_k».proof.Proof.Ref
public import Idealize.ShloMosaic.Lib.Layout

@[expose] public section

noncomputable section

namespace Cert.Proof

open Idealize.ShloMosaic Idealize.SL.Sem

/-- At any floats the kernel runs, its argument ends unchanged, every counter ends at zero: -/
theorem frame_any {F : FTy → Type} [FloatOps F] (m : (ℓ : Loc KernelIdeal.nD KernelIdeal.τ KernelIdeal.sig) → Buf (Elt F) ℓ)
    (ρ : Dev KernelIdeal.nD → PrngReg) :
    θ_run (KernelIdeal.defs (F := F)) (onTc (τ := KernelIdeal.τ) (KernelIdeal.main (F := F))) ⟨m, fun _ => 0, ρ⟩ (fun r =>
      (∀ c : Dev KernelIdeal.nD, r.2.mem ((c.tc : Thread KernelIdeal.nD KernelIdeal.τ).loc KernelIdeal.main_arg0)
        = m ((c.tc : Thread KernelIdeal.nD KernelIdeal.τ).loc KernelIdeal.main_arg0)) ∧ r.2.sem = fun _ => 0) :=
  (θ_run KernelIdeal.defs _ _).mono (fun _ h => ⟨fun c => (h.1 c).1, h.2⟩) (run_main (F := F) m ρ)

/-- The two printed programs have the same bodies, -/
theorem bodies_same : Kernel.defs₀ (F := Bits) = KernelIdeal.defs₀ (F := Bits) := by
  unfold Kernel.defs₀ KernelIdeal.defs₀
  refine congrArg Defs.onTc ?_
  funext l a
  match l, a with
  | 0, (t, s) => rfl
  | 1, (t, s) => rfl

/-- so the same body tables. -/
theorem defs_same : Kernel.defs (F := Bits) = KernelIdeal.defs (F := Bits) := by
  unfold Kernel.defs KernelIdeal.defs
  exact congrArg (Pipeline.defs KernelIdeal.pcfgs) bodies_same

/-- So the kernel runs at the machine's own floats, -/
theorem frame_kernel : Cert.quiescent_Kernel := fun m ρ _ => by
  rw [defs_same]
  exact frame_any (F := Bits) m ρ

/-- and over the extended reals. -/
theorem frame_ideal : Cert.quiescent_KernelIdeal := fun m ρ _ => frame_any (F := Ideal) m ρ

/-- The reference runs, its argument ends unchanged, every counter ends at zero. -/
theorem frame_reference : Cert.quiescent_ReferenceIdeal := fun m ρ _ =>
  (θ_run Cert.ReferenceIdeal.defs _ _).mono (fun _ h => ⟨fun c => (h.1 c).1, h.2⟩) (Ref.run_ref m ρ)

section Whole

open Cert.KernelIdeal

variable {m : (ℓ : Loc nD τ sig) → Buf (Elt Ideal) ℓ} {x : FVec Ideal (⟨2, ![32768, 1024]⟩ : Shape) .f32}

/-- Row `k` of device `c` is row `8192 c + k` of the whole argument. -/
theorem devRow_whole (hx : ∀ c : Dev nD, m ((c.tc : Thread nD τ).loc main_arg0) = Layout.block ⟨2, ![8192, 1024]⟩ ⟨2, ![32768, 1024]⟩ 0 4 c x)
    (c : Dev nD) (j : Fin 1024) (k : ℕ) (hk : k < 8192) : devRow m c j k = Ref.at' x (8192 * c.val + k) j := by
  have hc : c.val < 4 := c.isLt
  rw [devRow, dif_pos hk, Ref.at', dif_pos (by omega), hx c, Layout.block_apply]
  refine congrArg x (funext fun a => Fin.ext ?_)
  rw [Layout.Tiles.idx_val]
  match a with
  | 0 => show c.val * 8192 + k = 8192 * c.val + k; omega
  | 1 => rfl

/-- Each device's result is its block of the whole argument's running product. -/
theorem result_whole (hx : ∀ c : Dev nD, m ((c.tc : Thread nD τ).loc main_arg0) = Layout.block ⟨2, ![8192, 1024]⟩ ⟨2, ![32768, 1024]⟩ 0 4 c x)
    (c : Dev nD) : resultOf m c = Layout.block ⟨2, ![8192, 1024]⟩ ⟨2, ![32768, 1024]⟩ 0 4 c (fun i => Ref.prodRows x ((i 0).val + 1) (i 1)) := by
  funext i
  have hc : c.val < 4 := c.isLt
  have hi : (i 0).val < 8192 := (i 0).isLt
  have hd : ∀ d ∈ Finset.range c.val, total m (i 1) d = ∏ k ∈ Finset.range 8192, Ref.at' x (8192 * d + k) (i 1) := fun d h => by
    have h := Finset.mem_range.mp h
    unfold total
    rw [dif_pos (by omega)]
    exact Finset.prod_congr rfl fun k hk => devRow_whole hx ⟨d, _⟩ (i 1) k (Finset.mem_range.mp hk)
  have hr : ∀ k ∈ Finset.range ((i 0).val + 1), devRow m c (i 1) k = Ref.at' x (8192 * c.val + k) (i 1) := fun k h =>
    devRow_whole hx c (i 1) k (by have h := Finset.mem_range.mp h; omega)
  rw [resultOf, Finset.prod_congr rfl hd, Finset.prod_congr rfl hr, prod_blocks (fun k => Ref.at' x k (i 1)), ← Finset.prod_range_add,
    Layout.block_apply]
  unfold Ref.prodRows
  have e0 : ∀ h : Layout.Tiles ⟨2, ![8192, 1024]⟩ ⟨2, ![32768, 1024]⟩ 0 4, (h.idx c i 0).val = 8192 * c.val + (i 0).val := fun h => by
    rw [Layout.Tiles.idx_val]
    show c.val * 8192 + (i 0).val = _
    omega
  have e1 : ∀ h : Layout.Tiles ⟨2, ![8192, 1024]⟩ ⟨2, ![32768, 1024]⟩ 0 4, h.idx c i 1 = i 1 := fun h => Fin.ext (h.idx_val c i 1)
  rw [e0, e1, add_assoc]

end Whole

/-- Over the extended reals, from blocks of one argument, each device's result is its block of the reference's result. -/
theorem value : Cert.algebraic_KernelIdeal_ReferenceIdeal := fun m ρ m' ρ' _ hx =>
  ⟨fun i => Ref.prodRows (Ref.argOf m' 0) ((i 0).val + 1) (i 1),
    (θ_run Cert.KernelIdeal.defs _ _).mono
      (fun _ h c => ⟨((h.1 c).2.trans (out_eq m c)).trans (result_whole hx c), (h.1 c).1⟩) (run_main (F := Ideal) m ρ),
    (θ_run Cert.ReferenceIdeal.defs _ _).mono
      (fun _ h => ⟨funext fun i => (congrArg _ (eq_ix2 i)).trans ((h.1 0).2 (i 0) (i 1)), (h.1 0).1⟩) (Ref.run_ref m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
